-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "soft" .f32 0x3E16C740#32 (((3424635 / 33554432) * (Real.log 2)⁻¹ : ℝ) : EReal)

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_3)) (v3 : (c : Dev Cert.KernelIdeal.nD) → Buf (Elt Ideal) ((c.tc : Thread Cert.KernelIdeal.nD Cert.KernelIdeal.τ).loc Cert.KernelIdeal.main_v0_4)) (v4 : (c : Dev Cert.KernelIdeal.nD) → Buf (Elt Ideal) ((c.tc : Thread Cert.KernelIdeal.nD Cert.KernelIdeal.τ).loc Cert.KernelIdeal.main_v0_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_3) = v2 c
          ∧ r.2.mem ((c.tc : Thread Cert.KernelIdeal.nD Cert.KernelIdeal.τ).loc Cert.KernelIdeal.main_v0_4) = v3 c
          ∧ r.2.mem ((c.tc : Thread Cert.KernelIdeal.nD Cert.KernelIdeal.τ).loc Cert.KernelIdeal.main_v0_7) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S3x640x6144 : Shape := ⟨3, ![3, 640, 6144]⟩
abbrev S3x640x768 : Shape := ⟨3, ![3, 640, 768]⟩
abbrev S3x5x128x64x96 : Shape := ⟨5, ![3, 5, 128, 64, 96]⟩
abbrev S_ : Shape := ⟨0, ![]⟩
abbrev S3x5x64x96 : Shape := ⟨4, ![3, 5, 64, 96]⟩
abbrev S3x5x1x64x96 : Shape := ⟨5, ![3, 5, 1, 64, 96]⟩
abbrev S3x5x64 : Shape := ⟨3, ![3, 5, 64]⟩
abbrev S3x5x1x64x1 : Shape := ⟨5, ![3, 5, 1, 64, 1]⟩

class Facts : Prop where
  shapeCasts_S3x640x6144_S3x5x128x64x96 : S3x640x6144.ShapeCasts S3x5x128x64x96
  bitsLt_bf16_f32 : FTy.bits .bf16 < FTy.bits .f32
  reducesTo_S3x5x128x64x96_S3x5x64x96_d2 : S3x5x128x64x96.ReducesTo [2] S3x5x64x96
  h_S_ : 0 < S_.numel
  bcast_S3x5x64x96_S3x5x1x64x96_0_1_3_4 : S3x5x64x96.BroadcastsInDim S3x5x1x64x96 (![0, 1, 3, 4] : Fin 4 → Fin S3x5x1x64x96.rank)
  bcast_S_S3x5x1x64x96 : S_.BroadcastsInDim S3x5x1x64x96 (![] : Fin 0 → Fin S3x5x1x64x96.rank)
  bcast_S3x5x1x64x96_S3x5x128x64x96_0_1_2_3_4 : S3x5x1x64x96.BroadcastsInDim S3x5x128x64x96 (![0, 1, 2, 3, 4] : Fin 5 → Fin S3x5x128x64x96.rank)
  reducesTo_S3x5x128x64x96_S3x5x64_d2_4 : S3x5x128x64x96.ReducesTo [2, 4] S3x5x64
  bcast_S3x5x64_S3x5x1x64x1_0_1_3 : S3x5x64.BroadcastsInDim S3x5x1x64x1 (![0, 1, 3] : Fin 3 → Fin S3x5x1x64x1.rank)
  bcast_S_S3x5x128x64x96 : S_.BroadcastsInDim S3x5x128x64x96 (![] : Fin 0 → Fin S3x5x128x64x96.rank)
  bcast_S_S3x5x1x64x1 : S_.BroadcastsInDim S3x5x1x64x1 (![] : Fin 0 → Fin S3x5x1x64x1.rank)
  bcast_S3x5x1x64x1_S3x5x1x64x96_0_1_2_3_4 : S3x5x1x64x1.BroadcastsInDim S3x5x1x64x96 (![0, 1, 2, 3, 4] : Fin 5 → Fin S3x5x1x64x96.rank)

variable [Facts]

def fn_where {F : FTy → Type} [FloatOps F] (arg0 : IVec S3x5x1x64x1 1) (arg1 : FVec F S_ .f32) (arg2 : FVec F S3x5x1x64x1 .f32) : FVec F S3x5x1x64x1 .f32 :=
  let v0 : FVec F S_ .f32 := id arg1
  let v1 : FVec F S3x5x1x64x1 .f32 := broadcastInDim S3x5x1x64x1 ![] bcast_S_S3x5x1x64x1 v0
  let v2 : FVec F S3x5x1x64x1 .f32 := select arg0 v1 arg2
  v2

def fn_part1 {F : FTy → Type} [FloatOps F] (main_v10 : FVec F S3x5x1x64x1 .f32) (main_v13 : IVec S3x5x128x64x96 1) (main_v14 : FVec F S3x5x1x64x96 .f32) (main_v16 : IVec S3x5x1x64x1 1) (main_v17 : FVec F S3x5x1x64x1 .f32) : IVec S3x5x128x64x96 1 :=
  let main_v18 : FVec F S3x5x1x64x1 .f32 := mulf main_v10 main_v17
  let main_cst_5 : FVec F S_ .f32 := constant S_ .f32 0x71800000#32
  let main_v19 : FVec F S3x5x1x64x1 .f32 := fn_where (F := F) main_v16 main_cst_5 main_v18
  let main_v20 : FVec F S3x5x1x64x96 .f32 := broadcastInDim S3x5x1x64x96 ![0, 1, 2, 3, 4] bcast_S3x5x1x64x1_S3x5x1x64x96_0_1_2_3_4 main_v19
  let main_v21 : IVec S3x5x1x64x96 1 := cmpf .ole main_v14 main_v20
  let main_v22 : IVec S3x5x128x64x96 1 := broadcastInDim S3x5x128x64x96 ![0, 1, 2, 3, 4] bcast_S3x5x1x64x96_S3x5x128x64x96_0_1_2_3_4 main_v21
  let main_v23 : IVec S3x5x128x64x96 1 := andi main_v13 main_v22
  main_v23

def fn {F : FTy → Type} [FloatOps F] (main_arg0 : FVec F S3x640x6144 .bf16) (main_arg1 : FVec F S3x640x768 .bf16) (main_arg2 : FVec F S3x640x768 .bf16) : IVec S3x5x128x64x96 1 :=
  let main_v0 : FVec F S3x5x128x64x96 .bf16 := shapeCast S3x5x128x64x96 main_arg0 shapeCasts_S3x640x6144_S3x5x128x64x96
  let main_v1 : FVec F S3x5x128x64x96 .f32 := (extf .f32 · bitsLt_bf16_f32) main_v0
  let main_cst : FVec F S_ .f32 := constant S_ .f32 0x00000000#32
  let main_v2 : FVec F S3x5x64x96 .f32 := (fun x v => Host.reduceAdd x v reducesTo_S3x5x128x64x96_S3x5x64x96_d2 h_S_) main_v1 main_cst
  let main_v3 : FVec F S3x5x1x64x96 .f32 := broadcastInDim S3x5x1x64x96 ![0, 1, 3, 4] bcast_S3x5x64x96_S3x5x1x64x96_0_1_3_4 main_v2
  let main_cst_0 : FVec F S_ .f32 := constant S_ .f32 0x43000000#32
  let main_v4 : FVec F S3x5x1x64x96 .f32 := broadcastInDim S3x5x1x64x96 ![] bcast_S_S3x5x1x64x96 main_cst_0
  let main_v5 : FVec F S3x5x1x64x96 .f32 := Host.divf main_v3 main_v4
  let main_v6 : FVec F S3x5x128x64x96 .f32 := broadcastInDim S3x5x128x64x96 ![0, 1, 2, 3, 4] bcast_S3x5x1x64x96_S3x5x128x64x96_0_1_2_3_4 main_v5
  let main_v7 : FVec F S3x5x128x64x96 .f32 := subf main_v1 main_v6
  let main_v8 : FVec F S3x5x128x64x96 .f32 := Host.absf main_v7
  let main_cst_1 : FVec F S_ .f32 := constant S_ .f32 0xFF800000#32
  let main_v9 : FVec F S3x5x64 .f32 := (fun x v => Host.reduce FloatOps.maximumf x v reducesTo_S3x5x128x64x96_S3x5x64_d2_4 h_S_) main_v8 main_cst_1
  let main_v10 : FVec F S3x5x1x64x1 .f32 := broadcastInDim S3x5x1x64x1 ![0, 1, 3] bcast_S3x5x64_S3x5x1x64x1_0_1_3 main_v9
  let main_v11 : FVec F S3x5x128x64x96 .f32 := Host.absf main_v1
  let main_cst_2 : FVec F S_ .f32 := constant S_ .f32 0x7F800000#32
  let main_v12 : FVec F S3x5x128x64x96 .f32 := broadcastInDim S3x5x128x64x96 ![] bcast_S_S3x5x128x64x96 main_cst_2
  let main_v13 : IVec S3x5x128x64x96 1 := cmpf .olt main_v11 main_v12
  let main_v14 : FVec F S3x5x1x64x96 .f32 := Host.absf main_v5
  let main_cst_3 : FVec F S_ .f32 := constant S_ .f32 0x00000000#32
  let main_v15 : FVec F S3x5x1x64x1 .f32 := broadcastInDim S3x5x1x64x1 ![] bcast_S_S3x5x1x64x1 main_cst_3
  let main_v16 : IVec S3x5x1x64x1 1 := cmpf .oeq main_v10 main_v15
  let main_cst_4 : FVec F S_ .f32 := constant S_ .f32 0x6D000000#32
  let main_v17 : FVec F S3x5x1x64x1 .f32 := broadcastInDim S3x5x1x64x1 ![] bcast_S_S3x5x1x64x1 main_cst_4
  fn_part1 (F := F) main_v10 main_v13 main_v14 main_v16 main_v17
-- ==== Kernel.lean ====
abbrev S3x640x6144 : Shape := ⟨3, ![3, 640, 6144]⟩
abbrev S3x640x768 : Shape := ⟨3, ![3, 640, 768]⟩
abbrev S3x64x96x640 : Shape := ⟨4, ![3, 64, 96, 640]⟩
abbrev S5x3x64 : Shape := ⟨3, ![5, 3, 64]⟩
abbrev S3x5x64x96 : Shape := ⟨4, ![3, 5, 64, 96]⟩
abbrev S3x8x96x640 : Shape := ⟨4, ![3, 8, 96, 640]⟩
abbrev S3x8x10 : Shape := ⟨3, ![3, 8, 10]⟩
abbrev S3x8x96 : Shape := ⟨3, ![3, 8, 96]⟩
abbrev S1x640x768 : Shape := ⟨3, ![1, 640, 768]⟩
abbrev S1x8x96x640 : Shape := ⟨4, ![1, 8, 96, 640]⟩
abbrev S1x5x8x96 : Shape := ⟨4, ![1, 5, 8, 96]⟩
abbrev S1x1x96x640 : Shape := ⟨4, ![1, 1, 96, 640]⟩
abbrev S1x8x10 : Shape := ⟨3, ![1, 8, 10]⟩
abbrev S1x8x96 : Shape := ⟨3, ![1, 8, 96]⟩
abbrev S640x256 : Shape := ⟨2, ![640, 256]⟩
abbrev S768x128 : Shape := ⟨2, ![768, 128]⟩
abbrev S64x128 : Shape := ⟨2, ![64, 128]⟩
abbrev S96x256 : Shape := ⟨2, ![96, 256]⟩
abbrev S1x640x256 : Shape := ⟨3, ![1, 640, 256]⟩
abbrev S96x640 : Shape := ⟨2, ![96, 640]⟩
abbrev S96 : Shape := ⟨1, ![96]⟩
abbrev S96x1 : Shape := ⟨2, ![96, 1]⟩
abbrev S1x128 : Shape := ⟨2, ![1, 128]⟩
abbrev S96x128 : Shape := ⟨2, ![96, 128]⟩
abbrev S128 : Shape := ⟨1, ![128]⟩
abbrev S1 : Shape := ⟨1, ![1]⟩
abbrev S1x1 : Shape := ⟨2, ![1, 1]⟩
abbrev S640x96 : Shape := ⟨2, ![640, 96]⟩
abbrev S8x96 : Shape := ⟨2, ![8, 96]⟩
abbrev S128x96 : Shape := ⟨2, ![128, 96]⟩
abbrev S8x10 : Shape := ⟨2, ![8, 10]⟩
abbrev S8x640 : Shape := ⟨2, ![8, 640]⟩
abbrev S640x768 : Shape := ⟨2, ![640, 768]⟩
abbrev S8x768 : Shape := ⟨2, ![8, 768]⟩
abbrev S768x8 : Shape := ⟨2, ![768, 8]⟩
abbrev S8x32 : Shape := ⟨2, ![8, 32]⟩
abbrev S8x128 : Shape := ⟨2, ![8, 128]⟩
abbrev S1x1x8x96 : Shape := ⟨4, ![1, 1, 8, 96]⟩
abbrev S1x64 : Shape := ⟨2, ![1, 64]⟩
abbrev S192x256 : Shape := ⟨2, ![192, 256]⟩
abbrev S192x640 : Shape := ⟨2, ![192, 640]⟩
abbrev S1x96x128 : Shape := ⟨3, ![1, 96, 128]⟩
abbrev S1x1x1 : Shape := ⟨3, ![1, 1, 1]⟩
abbrev S1x1x96x128 : Shape := ⟨4, ![1, 1, 96, 128]⟩
abbrev S1x1x64 : Shape := ⟨3, ![1, 1, 64]⟩
abbrev S128x128 : Shape := ⟨2, ![128, 128]⟩
abbrev S128x256 : Shape := ⟨2, ![128, 256]⟩
abbrev S8x8x128 : Shape := ⟨3, ![8, 8, 128]⟩
abbrev S1x256 : Shape := ⟨2, ![1, 256]⟩
abbrev S128x768 : Shape := ⟨2, ![128, 768]⟩
abbrev S1x128x768 : Shape := ⟨3, ![1, 128, 768]⟩
abbrev S256x96 : Shape := ⟨2, ![256, 96]⟩
abbrev S256x256 : Shape := ⟨2, ![256, 256]⟩
abbrev S256x128 : Shape := ⟨2, ![256, 128]⟩
abbrev S384x96 : Shape := ⟨2, ![384, 96]⟩
abbrev S384x256 : Shape := ⟨2, ![384, 256]⟩
abbrev S384x128 : Shape := ⟨2, ![384, 128]⟩
abbrev S96x384 : Shape := ⟨2, ![96, 384]⟩
abbrev S512x96 : Shape := ⟨2, ![512, 96]⟩
abbrev S512x256 : Shape := ⟨2, ![512, 256]⟩
abbrev S512x128 : Shape := ⟨2, ![512, 128]⟩
abbrev S96x512 : Shape := ⟨2, ![96, 512]⟩
abbrev S640x128 : Shape := ⟨2, ![640, 128]⟩

abbrev nBuf : Space → Nat
  | .hbm => 12
  | .vmem => 26
  | .smem => 0
  | _ => 0

abbrev bufTy : (tb : Table) → Fin (tcTables nBuf tb) → BufTy
  | .hbm, ⟨0, _⟩ => ⟨S3x640x6144, .bf16⟩
  | .hbm, ⟨1, _⟩ => ⟨S3x640x768, .bf16⟩
  | .hbm, ⟨2, _⟩ => ⟨S3x640x768, .bf16⟩
  | .hbm, ⟨3, _⟩ => ⟨S3x640x6144, .bf16⟩
  | .hbm, ⟨4, _⟩ => ⟨S3x64x96x640, .fp8e4m3⟩
  | .hbm, ⟨5, _⟩ => ⟨S5x3x64, .f32⟩
  | .hbm, ⟨6, _⟩ => ⟨S3x5x64x96, .bf16⟩
  | .hbm, ⟨7, _⟩ => ⟨S3x8x96x640, .fp8e4m3⟩
  | .hbm, ⟨8, _⟩ => ⟨S3x8x10, .f32⟩
  | .hbm, ⟨9, _⟩ => ⟨S3x8x96, .bf16⟩
  | .hbm, ⟨10, _⟩ => ⟨S3x8x96x640, .fp8e4m3⟩
  | .hbm, ⟨11, _⟩ => ⟨S3x8x96, .f32⟩
  | .local _ .vmem, ⟨0, _⟩ => ⟨S1x640x768, .bf16⟩
  | .local _ .vmem, ⟨1, _⟩ => ⟨S1x640x768, .bf16⟩
  | .local _ .vmem, ⟨2, _⟩ => ⟨S1x640x768, .bf16⟩
  | .local _ .vmem, ⟨3, _⟩ => ⟨S1x640x768, .bf16⟩
  | .local _ .vmem, ⟨4, _⟩ => ⟨S1x640x768, .bf16⟩
  | .local _ .vmem, ⟨5, _⟩ => ⟨S1x640x768, .bf16⟩
  | .local _ .vmem, ⟨6, _⟩ => ⟨S1x640x768, .bf16⟩
  | .local _ .vmem, ⟨7, _⟩ => ⟨S1x640x768, .bf16⟩
  | .local _ .vmem, ⟨8, _⟩ => ⟨S1x8x96x640, .fp8e4m3⟩
  | .local _ .vmem, ⟨9, _⟩ => ⟨S1x8x96x640, .fp8e4m3⟩
  | .local _ .vmem, ⟨10, _⟩ => ⟨S5x3x64, .f32⟩
  | .local _ .vmem, ⟨11, _⟩ => ⟨S1x5x8x96, .bf16⟩
  | .local _ .vmem, ⟨12, _⟩ => ⟨S1x5x8x96, .bf16⟩
  | .local _ .vmem, ⟨13, _⟩ => ⟨S1x1x96x640, .fp8e4m3⟩
  | .local _ .vmem, ⟨14, _⟩ => ⟨S1x1x96x640, .fp8e4m3⟩
  | .local _ .vmem, ⟨15, _⟩ => ⟨S1x8x10, .f32⟩
  | .local _ .vmem, ⟨16, _⟩ => ⟨S1x8x10, .f32⟩
  | .local _ .vmem, ⟨17, _⟩ => ⟨S1x8x96, .bf16⟩
  | .local _ .vmem, ⟨18, _⟩ => ⟨S1x8x96, .bf16⟩
  | .local _ .vmem, ⟨19, _⟩ => ⟨S1x1x96x640, .fp8e4m3⟩
  | .local _ .vmem, ⟨20, _⟩ => ⟨S1x1x96x640, .fp8e4m3⟩
  | .local _ .vmem, ⟨21, _⟩ => ⟨S1x8x96, .f32⟩
  | .local _ .vmem, ⟨22, _⟩ => ⟨S1x8x96, .f32⟩
  | .local _ .vmem, ⟨23, _⟩ => ⟨S640x256, .f32⟩
  | .local _ .vmem, ⟨24, _⟩ => ⟨S768x128, .bf16⟩
  | .local _ .vmem, ⟨25, _⟩ => ⟨S64x128, .f32⟩
  | _, _ => ⟨S3x640x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev main_v0_7 : Ref sig .tc := ⟨.hbm, 10, rfl⟩
abbrev main_v0_8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![3, 8], ![false, false]⟩

def k0_mult1 (i : grid0.Coords) : BitVec 32 :=
  let c3_i32 : BitVec 32 := 3#32
  let arg1 : BitVec 32 := BitVec.ofNat 32 (i 1).val
  let v8 : BitVec 32 := Scalar.muli c3_i32 arg1
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c4_i32 : BitVec 32 := 4#32
  let c0_i32_6 : BitVec 32 := 0#32
  let v15 : BitVec 1 := Scalar.cmpi .sgt c4_i32 c0_i32_6
  let v16 : BitVec 32 := Scalar.extui v15
  let c0_i32_7 : BitVec 32 := 0#32
  let v17 : BitVec 1 := Scalar.cmpi .slt c4_i32 c0_i32_7
  let v18 : BitVec 32 := Scalar.extui v17
  let v19 : BitVec 32 := Scalar.subi v16 v18
  let v20 : BitVec 1 := Scalar.cmpi .ne v14 v19
  let v21 : BitVec 32 := Scalar.remsi v8 c4_i32
  let c0_i32_8 : BitVec 32 := 0#32
  let v22 : BitVec 1 := Scalar.cmpi .ne v21 c0_i32_8
  let v23 : BitVec 1 := Scalar.andi v20 v22
  let v9 : BitVec 32 := Scalar.divsi v8 c4_i32
  let c1_i32 : BitVec 32 := 1#32
  let v24 : BitVec 32 := Scalar.subi v9 c1_i32
  let v25 : BitVec 32 := Scalar.select v23 v24 v9
  let c4_i32_9 : BitVec 32 := 4#32
  let v26 : BitVec 32 := Scalar.minsi v25 c4_i32_9
  let c128_i32_10 : BitVec 32 := 128#32
  let v30 : BitVec 32 := Scalar.muli v26 c128_i32_10
  v30
def k0_off1 (i : grid0.Coords) : Fin 3 → Nat :=
  let c0 : Index := 0#32
  let c0_12 : Index := 0#32
  let c3_i32 : BitVec 32 := 3#32
  let arg1 : BitVec 32 := BitVec.ofNat 32 (i 1).val
  let v8 : BitVec 32 := Scalar.muli c3_i32 arg1
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c4_i32 : BitVec 32 := 4#32
  let c0_i32_6 : BitVec 32 := 0#32
  let v15 : BitVec 1 := Scalar.cmpi .sgt c4_i32 c0_i32_6
  let v16 : BitVec 32 := Scalar.extui v15
  let c0_i32_7 : BitVec 32 := 0#32
  let v17 : BitVec 1 := Scalar.cmpi .slt c4_i32 c0_i32_7
  let v18 : BitVec 32 := Scalar.extui v17
  let v19 : BitVec 32 := Scalar.subi v16 v18
  let v20 : BitVec 1 := Scalar.cmpi .ne v14 v19
  let v21 : BitVec 32 := Scalar.remsi v8 c4_i32
  let c0_i32_8 : BitVec 32 := 0#32
  let v22 : BitVec 1 := Scalar.cmpi .ne v21 c0_i32_8
  let v23 : BitVec 1 := Scalar.andi v20 v22
  let v9 : BitVec 32 := Scalar.divsi v8 c4_i32
  let c1_i32 : BitVec 32 := 1#32
  let v24 : BitVec 32 := Scalar.subi v9 c1_i32
  let v25 : BitVec 32 := Scalar.select v23 v24 v9
  let c4_i32_9 : BitVec 32 := 4#32
  let v26 : BitVec 32 := Scalar.minsi v25 c4_i32_9
  let c128_i32_10 : BitVec 32 := 128#32
  let v30 : BitVec 32 := Scalar.muli v26 c128_i32_10
  let v31 : BitVec 32 := v30
  let v41 : Index := Scalar.indexCast v31
  ![0, 0, v41.toNat]
def k0_off2 (i : grid0.Coords) : Fin 3 → Nat :=
  let c0_881 : Index := 0#32
  let arg0 : BitVec 32 := BitVec.ofNat 32 (i 0).val
  let v2563 : Index := Scalar.indexCast arg0
  let c0_882 : Index := 0#32
  ![0, v2563.toNat, 0]
def k0_off3 (i : grid0.Coords) : Fin 3 → Nat :=
  let c1_901 : Index := 1#32
  let arg0 : BitVec 32 := BitVec.ofNat 32 (i 0).val
  let v2626 : Index := Scalar.indexCast arg0
  let c0_902 : Index := 0#32
  ![1, v2626.toNat, 0]
def k0_off4 (i : grid0.Coords) : Fin 3 → Nat :=
  let c2_921 : Index := 2#32
  let arg0 : BitVec 32 := BitVec.ofNat 32 (i 0).val
  let v2689 : Index := Scalar.indexCast arg0
  let c0_922 : Index := 0#32
  ![2, v2689.toNat, 0]
def k0_off5 (i : grid0.Coords) : Fin 3 → Nat :=
  let c3_941 : Index := 3#32
  let arg0 : BitVec 32 := BitVec.ofNat 32 (i 0).val
  let v2752 : Index := Scalar.indexCast arg0
  let c0_942 : Index := 0#32
  ![3, v2752.toNat, 0]
def k0_off6 (i : grid0.Coords) : Fin 3 → Nat :=
  let c4_961 : Index := 4#32
  let arg0 : BitVec 32 := BitVec.ofNat 32 (i 0).val
  let v2815 : Index := Scalar.indexCast arg0
  let c0_962 : Index := 0#32
  ![4, v2815.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x640x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x640x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x640x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x640x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x96x640 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S5x3x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x5x8x96 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x96x640 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x10 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x8x96 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x96x640 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x96 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== KernelIdeal.lean ====
variable {F : FTy → Type} [FloatOps F] [Named F]
def κ : String → Option EReal := fun
  | "log2e" => some (((Real.log 2)⁻¹ : ℝ) : EReal)
  | "soft" => some (((3424635 / 33554432) * (Real.log 2)⁻¹ : ℝ) : EReal)
  | _ => none
-- ==== ReferenceIdeal.lean ====
abbrev S3x640x6144 : Shape := ⟨3, ![3, 640, 6144]⟩
abbrev S3x640x768 : Shape := ⟨3, ![3, 640, 768]⟩
abbrev S3x64x96x640 : Shape := ⟨4, ![3, 64, 96, 640]⟩
abbrev S3x5x64x96 : Shape := ⟨4, ![3, 5, 64, 96]⟩
abbrev S3x8x96x640 : Shape := ⟨4, ![3, 8, 96, 640]⟩
abbrev S3x5x128x64x96 : Shape := ⟨5, ![3, 5, 128, 64, 96]⟩
abbrev S3x5x1x64x96 : Shape := ⟨5, ![3, 5, 1, 64, 96]⟩
abbrev S3x5x64 : Shape := ⟨3, ![3, 5, 64]⟩
abbrev S3x5x1x64x1 : Shape := ⟨5, ![3, 5, 1, 64, 1]⟩
abbrev S3x640x8x8x96 : Shape := ⟨5, ![3, 640, 8, 8, 96]⟩
abbrev S3x640x8x96 : Shape := ⟨4, ![3, 640, 8, 96]⟩
abbrev S3x8x96 : Shape := ⟨3, ![3, 8, 96]⟩
abbrev S3x1x8x96 : Shape := ⟨4, ![3, 1, 8, 96]⟩
abbrev S3x10x64x8x96 : Shape := ⟨5, ![3, 10, 64, 8, 96]⟩
abbrev S3x10x8 : Shape := ⟨3, ![3, 10, 8]⟩
abbrev S3x10x1x8x1 : Shape := ⟨5, ![3, 10, 1, 8, 1]⟩
abbrev S3x8x640x640x8 : Shape := ⟨5, ![3, 8, 640, 640, 8]⟩
abbrev S3x8x8x640x640 : Shape := ⟨5, ![3, 8, 8, 640, 640]⟩
abbrev S3x5x8x8x96 : Shape := ⟨5, ![3, 5, 8, 8, 96]⟩
abbrev S3x8x640x5x8 : Shape := ⟨5, ![3, 8, 640, 5, 8]⟩
abbrev S3x8x8x5x640 : Shape := ⟨5, ![3, 8, 8, 5, 640]⟩
abbrev S3x5x8x8 : Shape := ⟨4, ![3, 5, 8, 8]⟩
abbrev S3x5x1x8x8 : Shape := ⟨5, ![3, 5, 1, 8, 8]⟩
abbrev S3x5x128x8x8 : Shape := ⟨5, ![3, 5, 128, 8, 8]⟩
abbrev S3x640x8x8 : Shape := ⟨4, ![3, 640, 8, 8]⟩
abbrev S3x8x8x640 : Shape := ⟨4, ![3, 8, 8, 640]⟩
abbrev S3x8x8x640x1 : Shape := ⟨5, ![3, 8, 8, 640, 1]⟩
abbrev S3x10x1x8 : Shape := ⟨4, ![3, 10, 1, 8]⟩
abbrev S3x10x64x8 : Shape := ⟨4, ![3, 10, 64, 8]⟩
abbrev S3x640x8 : Shape := ⟨3, ![3, 640, 8]⟩
abbrev S3x8x640 : Shape := ⟨3, ![3, 8, 640]⟩
abbrev S3x8x1x1x640 : Shape := ⟨5, ![3, 8, 1, 1, 640]⟩
abbrev S3x8x8x5x1x640 : Shape := ⟨6, ![3, 8, 8, 5, 1, 640]⟩
abbrev S3x8x8x5x128x640 : Shape := ⟨6, ![3, 8, 8, 5, 128, 640]⟩
abbrev S1x640 : Shape := ⟨2, ![1, 640]⟩
abbrev S640 : Shape := ⟨1, ![640]⟩
abbrev S640x1 : Shape := ⟨2, ![640, 1]⟩
abbrev S640x640 : Shape := ⟨2, ![640, 640]⟩
abbrev S1x1x1x640x640 : Shape := ⟨5, ![1, 1, 1, 640, 640]⟩
abbrev S3x8x8x640x96 : Shape := ⟨5, ![3, 8, 8, 640, 96]⟩
abbrev S3x8x1x1x96 : Shape := ⟨5, ![3, 8, 1, 1, 96]⟩
abbrev S3x640x64x96 : Shape := ⟨4, ![3, 640, 64, 96]⟩

abbrev nBuf : Space → Nat
  | .hbm => 8
  | .vmem => 8
  | .smem => 0
  | _ => 0

abbrev bufTy : (tb : Table) → Fin (tcTables nBuf tb) → BufTy
  | .hbm, ⟨0, _⟩ => ⟨S3x640x6144, .bf16⟩
  | .hbm, ⟨1, _⟩ => ⟨S3x640x768, .bf16⟩
  | .hbm, ⟨2, _⟩ => ⟨S3x640x768, .bf16⟩
  | .hbm, ⟨3, _⟩ => ⟨S3x640x6144, .bf16⟩
  | .hbm, ⟨4, _⟩ => ⟨S3x64x96x640, .fp8e4m3⟩
  | .hbm, ⟨5, _⟩ => ⟨S3x5x64x96, .bf16⟩
  | .hbm, ⟨6, _⟩ => ⟨S3x8x96x640, .fp8e4m3⟩
  | .hbm, ⟨7, _⟩ => ⟨S3x8x96x640, .fp8e4m3⟩
  | .local _ .vmem, ⟨0, _⟩ => ⟨S3x640x6144, .bf16⟩
  | .local _ .vmem, ⟨1, _⟩ => ⟨S3x640x768, .bf16⟩
  | .local _ .vmem, ⟨2, _⟩ => ⟨S3x640x768, .bf16⟩
  | .local _ .vmem, ⟨3, _⟩ => ⟨S3x640x6144, .bf16⟩
  | .local _ .vmem, ⟨4, _⟩ => ⟨S3x64x96x640, .fp8e4m3⟩
  | .local _ .vmem, ⟨5, _⟩ => ⟨S3x5x64x96, .bf16⟩
  | .local _ .vmem, ⟨6, _⟩ => ⟨S3x8x96x640, .fp8e4m3⟩
  | .local _ .vmem, ⟨7, _⟩ => ⟨S3x8x96x640, .fp8e4m3⟩
  | _, _ => ⟨S3x640x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "log2e" => some (((Real.log 2)⁻¹ : ℝ) : EReal)
  | _ => none

abbrev grid0 : Pipeline.Grid := .none

abbrev stage0_0 : Fin 1 → Memref sig .tc .vmem S3x640x6144 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x640x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x640x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x640x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x64x96x640 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x5x64x96 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x8x96x640 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x8x96x640 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.BitsRuns.lean ====
module

public import proofs.«01_k».proof.Proof.Gen.Kernel.Skeleton
public import proofs.«01_k».proof.Proof.Gen.Kernel.Frame
public import proofs.«01_k».proof.Proof.Gen.Kernel.Launch
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WritesUnit

@[expose] public section

/-! What the run of the kernel's body is stated over: its branch conditions, its staging memrefs and scratch. -/

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_0 : ∀ t : Fin cfg0.N, cond0_0 (grid0.coords t) ↔ t.val % 8 = 0 :=
  (fun t => by
    have ht : t.val < 24 := Nat.lt_of_lt_of_eq t.isLt N_0
    have e0 : (grid0.coords t 0).val = t.val / 8 % 3 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := (Scalar.cmpi .ne (Scalar.extui (Scalar.andi (Scalar.cmpi .eq (BitVec.ofNat 32 (i 1).val) 0#32) (Scalar.cmpi .eq (BitVec.ofNat 32 (i 0).val) 0#32))) 0#32) = 1#1
/-- It holds at the first point only — by arithmetic of the point. -/
theorem hcond0_1 : ∀ t : Fin cfg0.N, cond0_1 (grid0.coords t) ↔ t.val % 24 = 0 :=
  (fun t => by
    have ht : t.val < 24 := Nat.lt_of_lt_of_eq t.isLt N_0
    have e0 : (grid0.coords t 0).val = t.val / 8 % 3 := Pipeline.Grid.coords_val t 0 (by decide) rfl
    have e1 : (grid0.coords t 1).val = t.val / 1 % 8 := Pipeline.Grid.coords_val t 1 (by decide) rfl
    simp only [cond0_1, e0, e1]
    word_cmp
   : ∀ t : Fin grid0.N, cond0_1 (grid0.coords t) ↔ t.val % 24 = 0)

/-- Each window's current staging memref at point `t`, spelled as the pipeline passes it (`bodyAt0`), and its wholeness. -/
abbrev ms0_0 (t : Fin cfg0.N) : Memref sig .tc .vmem S1x640x768 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x640x768 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x640x768 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x640x768 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x96x640 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S5x3x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x5x8x96 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x96x640 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x8x10 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x8x96 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x96x640 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x8x96 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S640x256 .f32 := Memref.whole cc0_scratch0
abbrev scM0_1 : Memref sig .tc .vmem S768x128 .bf16 := Memref.whole cc0_scratch1
abbrev scM0_2 : Memref sig .tc .vmem S64x128 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Run

end
-- ==== Proof.BitsRun.lean ====
module

public import proofs.«01_k».proof.Proof.BitsRuns

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 17776000 in
/-- The body's triple, whichever of its branches are taken: the inputs' blocks stay, the outputs and the scratch end at
    some contents. -/
theorem bodyRun (c : Dev nD) (i : grid0.Coords) (arg2 : Memref sig .tc .vmem S1x640x768 .bf16) (harg2 : arg2.IsWhole) (arg3 : Memref sig .tc .vmem S1x640x768 .bf16) (harg3 : arg3.IsWhole) (arg4 : Memref sig .tc .vmem S1x640x768 .bf16) (harg4 : arg4.IsWhole) (arg5 : Memref sig .tc .vmem S1x640x768 .bf16) (harg5 : arg5.IsWhole) (arg6 : Memref sig .tc .vmem S1x8x96x640 .fp8e4m3) (harg6 : arg6.IsWhole) (arg7 : Memref sig .tc .vmem S5x3x64 .f32) (harg7 : arg7.IsWhole) (arg8 : Memref sig .tc .vmem S1x5x8x96 .bf16) (harg8 : arg8.IsWhole) (arg9 : Memref sig .tc .vmem S1x1x96x640 .fp8e4m3) (harg9 : arg9.IsWhole) (arg10 : Memref sig .tc .vmem S1x8x10 .f32) (harg10 : arg10.IsWhole) (arg11 : Memref sig .tc .vmem S1x8x96 .bf16) (harg11 : arg11.IsWhole) (arg12 : Memref sig .tc .vmem S1x1x96x640 .fp8e4m3) (harg12 : arg12.IsWhole) (arg13 : Memref sig .tc .vmem S1x8x96 .f32) (harg13 : arg13.IsWhole) (arg14 : Memref sig .tc .vmem S640x256 .f32) (harg14 : arg14.IsWhole) (arg15 : Memref sig .tc .vmem S768x128 .bf16) (harg15 : arg15.IsWhole) (arg16 : Memref sig .tc .vmem S64x128 .f32) (harg16 : arg16.IsWhole) (h10 : cond0_1 i → cond0_0 i)
    (x0 : Vec F S1x640x768 .bf16) (x1 : Vec F S1x640x768 .bf16) (x2 : Vec F S1x640x768 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0__body_eq_skeleton]; unfold cc0__body_skel
    simp only [k0_part180_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part181_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part182_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton]
    have key : (cond0_0 i ∧ cond0_1 i) ∨ (cond0_0 i ∧ ¬ cond0_1 i) ∨ (¬ cond0_0 i ∧ ¬ cond0_1 i) := by tauto
    rcases key with ⟨hc0, hc1⟩ | ⟨hc0, hc1⟩ | ⟨hc0, hc1⟩
    all_goals
        unfold owns
        iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, Hk⟩
        obtain rfl := harg2.eq_unread hf0; obtain rfl := harg3.eq_unread hf1; obtain rfl := harg4.eq_unread hf2
        sl_exec (disch := first | sl_exact hc0 | sl_exact hc1)
        sl_step
        iapply Hk
        isplitl [H0]
        · iexists _; isplitr; · ipureintro; exact harg2.read_unread _
          iexact H0
        isplitl [H1]
        · iexists _; isplitr; · ipureintro; exact harg3.read_unread _
          iexact H1
        isplitl [H2]
        · iexists _; isplitr; · ipureintro; exact harg4.read_unread _
          iexact H2
        isplitl [H3]
        · iexists _, _; isplitr; swap; · iexact H3
          ipureintro; rfl
        isplitl [H4]
        · iexists _, _; isplitr; swap; · iexact H4
          ipureintro; rfl
        isplitl [H5]
        · iexists _, _; isplitr; swap; · iexact H5
          ipureintro; rfl
        isplitl [H6]
        · iexists _, _; isplitr; swap; · iexact H6
          ipureintro; rfl
        isplitl [H7]
        · iexists _, _; isplitr; swap; · iexact H7
          ipureintro; rfl
        isplitl [H8]
        · iexists _, _; isplitr; swap; · iexact H8
          ipureintro; rfl
        isplitl [H9]
        · iexists _, _; isplitr; swap; · iexact H9
          ipureintro; rfl
        isplitl [H10]
        · iexists _, _; isplitr; swap; · iexact H10
          ipureintro; rfl
        isplitl [H11]
        · iexists _, _; isplitr; swap; · iexact H11
          ipureintro; rfl
        isplitl [HS0]
        · iexists _, _; isplitr; swap; · iexact HS0
          ipureintro; rfl
        isplitl [HS1]
        · iexists _, _; isplitr; swap; · iexact HS1
          ipureintro; rfl
        iexists _, _; isplitr; swap; · iexact HS2
        ipureintro; rfl

end Cert.Kernel.Run
-- ==== Proof.BitsFrame.lean ====
module

public import proofs.«01_k».proof.Proof.BitsRun
public import Idealize.ShloMosaic.Lib.Claim

@[expose] public section

/-! The frame of the kernel as it stands, at any values: it runs to the end and leaves its arguments. -/

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The output windows this certificate FORGETS : nothing reads what the kernel leaves in them, so nothing
    of it is named (Lib/Pipeline/Dat.lean `Dat.toRForget`). -/
def forgets0 : Fin 12 → Bool := fun w => w.val == 3 || w.val == 4 || w.val == 5 || w.val == 6 || w.val == 7 || w.val == 8 || w.val == 9 || w.val == 10 || w.val == 11

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

set_option maxHeartbeats 3600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  have hN : t.val < 24 := lt_of_lt_of_eq t.isLt (show cfg0.N = 24 from N_0)
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((bodyRun c (grid0.coords t) _ _ _ _ _ _ _ _ _ _ _ _ _ _ _ _ _ _ _ _ _ _ _ _ _ _ _ _ _ _ (fun h => (hcond0_0 t).mpr (by have := (hcond0_1 t).mp h; omega)) (iblk m c 0 t) (iblk m c 1 t) (iblk m c 2 t)) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  iintro ⟨H0, H1, H2, H3, H4, H5, H6, H7, H8, H9, H10, H11, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    forgotten outputs (windows 3 to 11) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((A_eq m c 0).trans (V_main_arg0 m c)),
      (Pipeline.RDat.FramePost.arr_in h c 1 rfl).trans ((A_eq m c 1).trans (V_main_arg1 m c)),
      (Pipeline.RDat.FramePost.arr_in h c 2 rfl).trans ((A_eq m c 2).trans (V_main_arg2 m c))⟩) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Run
-- ==== Proof.RefValue.lean ====
/- The reference's run with each of its results named: one grid point, so each result is its function `G_w` of the arguments. -/
module

public import proofs.«01_k».proof.Proof.Gen.ReferenceIdeal.Frame
public import Idealize.ShloMosaic.Lib.Pipeline.Value

@[expose] public section

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 3's array: the body's result for that window (`Gen.out0_3`: its stores
    as pieces over the input windows' blocks), read through the window's block. -/
theorem flushed3 (c : Dev nD) (t : Fin cfg0.N) :
    (dats m 0 c).flushed 3 t = (cfg0.win 3).cut (grid0.coords t) (out0_3 (iblk m c 0 t) (iblk m c 1 t) (iblk m c 2 t)) := by
  show (cfg0.win 3).cut (grid0.coords t) ((dats m 0 c).after 3 t) = _
  rw [after0_3]

/-- The index map sends distinct grid points to distinct block indices (decided over the 1 point). -/
theorem idx_inj3 : ∀ t t' : Fin cfg0.N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- An index that no flushing point's block covers keeps output window 3's array contents at region entry. -/
theorem entry3 (c : Dev nD) (i : S3x640x6144.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- WHAT POINT `t` WRITES BACK to output window 4's array: the body's result for that window (`Gen.out0_4`: its stores
    as pieces over the input windows' blocks), read through the window's block. -/
theorem flushed4 (c : Dev nD) (t : Fin cfg0.N) :
    (dats m 0 c).flushed 4 t = (cfg0.win 4).cut (grid0.coords t) (out0_4 (iblk m c 0 t) (iblk m c 1 t) (iblk m c 2 t)) := by
  show (cfg0.win 4).cut (grid0.coords t) ((dats m 0 c).after 4 t) = _
  rw [after0_4]

/-- The index map sends distinct grid points to distinct block indices (decided over the 1 point). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S3x64x96x640.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t)) := by
  show (cfg0.win 5).cut (grid0.coords t) ((dats m 0 c).after 5 t) = _
  rw [after0_5]

/-- The index map sends distinct grid points to distinct block indices (decided over the 1 point). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S3x5x64x96.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S3x8x96x640.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S3x8x96x640.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0_0) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_1) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_2) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_3) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_4) = (dats m 0 c).arrAt 7 cfg0.N :=
  (h c).1 7

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 3 cfg0.N
      ∧ r.2.mem ((c : Thread nD τ).loc main_v0_1) = (dats m 0 c).arrAt 4 cfg0.N
      ∧ r.2.mem ((c : Thread nD τ).loc main_v0_2) = (dats m 0 c).arrAt 5 cfg0.N
      ∧ r.2.mem ((c : Thread nD τ).loc main_v0_3) = (dats m 0 c).arrAt 6 cfg0.N
      ∧ r.2.mem ((c : Thread nD τ).loc main_v0_4) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post3 m r h c,
      post4 m r h c,
      post5 m r h c,
      post6 m r h c,
      post7 m r h c,
      kept_main_arg0 m r h c,
      kept_main_arg1 m r h c,
      kept_main_arg2 m r h c⟩)
    (run_main m ρ)

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S3x640x6144.Idx) : ((cfg0.win 0).blk t).view.emb j = j := by
  obtain ⟨e0, e1, e2⟩ := idx_zero0 t
  funext a; apply Fin.ext
  match a with
  | ⟨0, _⟩ => show win0_0.index t (0 : Fin 3) * 3 + 1 * (j 0).val = (j 0).val; omega
  | ⟨1, _⟩ => show win0_0.index t (1 : Fin 3) * 640 + 1 * (j 1).val = (j 1).val; omega
  | ⟨2, _⟩ => show win0_0.index t (2 : Fin 3) * 6144 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0, 0] : Fin 3 → Nat) = fun _ => 0 := funext fun a => by fin_cases a <;> rfl

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of window 1's block is the same index of its array. -/
theorem emb1 (t : Fin cfg0.N) (j : S3x640x768.Idx) : ((cfg0.win 1).blk t).view.emb j = j := by
  obtain ⟨e0, e1, e2⟩ := idx_zero1 t
  funext a; apply Fin.ext
  match a with
  | ⟨0, _⟩ => show win0_1.index t (0 : Fin 3) * 3 + 1 * (j 0).val = (j 0).val; omega
  | ⟨1, _⟩ => show win0_1.index t (1 : Fin 3) * 640 + 1 * (j 1).val = (j 1).val; omega
  | ⟨2, _⟩ => show win0_1.index t (2 : Fin 3) * 768 + 1 * (j 2).val = (j 2).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0, 0] : Fin 3 → Nat) = fun _ => 0 := funext fun a => by fin_cases a <;> rfl

/-- Window 2's block index at the one point is zero on every axis. -/
theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)

/-- An index of window 2's block is the same index of its array. -/
theorem emb2 (t : Fin cfg0.N) (j : S3x640x768.Idx) : ((cfg0.win 2).blk t).view.emb j = j := by
  obtain ⟨e0, e1, e2⟩ := idx_zero2 t
  funext a; apply Fin.ext
  match a with
  | ⟨0, _⟩ => show win0_2.index t (0 : Fin 3) * 3 + 1 * (j 0).val = (j 0).val; omega
  | ⟨1, _⟩ => show win0_2.index t (1 : Fin 3) * 640 + 1 * (j 1).val = (j 1).val; omega
  | ⟨2, _⟩ => show win0_2.index t (2 : Fin 3) * 768 + 1 * (j 2).val = (j 2).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0, 0] : Fin 3 → Nat) = fun _ => 0 := funext fun a => by fin_cases a <;> rfl

/-- Window 3's block index at the one point is zero on every axis. -/
theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)

/-- An index of window 3's block is the same index of its array. -/
theorem emb3 (t : Fin cfg0.N) (j : S3x640x6144.Idx) : ((cfg0.win 3).blk t).view.emb j = j := by
  obtain ⟨e0, e1, e2⟩ := idx_zero3 t
  funext a; apply Fin.ext
  match a with
  | ⟨0, _⟩ => show win0_3.index t (0 : Fin 3) * 3 + 1 * (j 0).val = (j 0).val; omega
  | ⟨1, _⟩ => show win0_3.index t (1 : Fin 3) * 640 + 1 * (j 1).val = (j 1).val; omega
  | ⟨2, _⟩ => show win0_3.index t (2 : Fin 3) * 6144 + 1 * (j 2).val = (j 2).val; omega

theorem hz4 : (![0, 0, 0, 0] : Fin 4 → Nat) = fun _ => 0 := funext fun a => by fin_cases a <;> rfl

/-- Window 4's block index at the one point is zero on every axis. -/
theorem idx_zero4 : ∀ t : Fin cfg0.N, win0_4.index t (0 : Fin 4) = 0 ∧ win0_4.index t (1 : Fin 4) = 0 ∧ win0_4.index t (2 : Fin 4) = 0 ∧ win0_4.index t (3 : Fin 4) = 0 :=
  (by decide +kernel : ∀ t : Fin grid0.N, _)

/-- An index of window 4's block is the same index of its array. -/
theorem emb4 (t : Fin cfg0.N) (j : S3x64x96x640.Idx) : ((cfg0.win 4).blk t).view.emb j = j := by
  obtain ⟨e0, e1, e2, e3⟩ := idx_zero4 t
  funext a; apply Fin.ext
  match a with
  | ⟨0, _⟩ => show win0_4.index t (0 : Fin 4) * 3 + 1 * (j 0).val = (j 0).val; omega
  | ⟨1, _⟩ => show win0_4.index t (1 : Fin 4) * 64 + 1 * (j 1).val = (j 1).val; omega
  | ⟨2, _⟩ => show win0_4.index t (2 : Fin 4) * 96 + 1 * (j 2).val = (j 2).val; omega
  | ⟨3, _⟩ => show win0_4.index t (3 : Fin 4) * 640 + 1 * (j 3).val = (j 3).val; omega

theorem hz5 : (![0, 0, 0, 0] : Fin 4 → Nat) = fun _ => 0 := funext fun a => by fin_cases a <;> rfl

/-- Window 5's block index at the one point is zero on every axis. -/
theorem idx_zero5 : ∀ t : Fin cfg0.N, win0_5.index t (0 : Fin 4) = 0 ∧ win0_5.index t (1 : Fin 4) = 0 ∧ win0_5.index t (2 : Fin 4) = 0 ∧ win0_5.index t (3 : Fin 4) = 0 :=
  (by decide +kernel : ∀ t : Fin grid0.N, _)

/-- An index of window 5's block is the same index of its array. -/
theorem emb5 (t : Fin cfg0.N) (j : S3x5x64x96.Idx) : ((cfg0.win 5).blk t).view.emb j = j := by
  obtain ⟨e0, e1, e2, e3⟩ := idx_zero5 t
  funext a; apply Fin.ext
  match a with
  | ⟨0, _⟩ => show win0_5.index t (0 : Fin 4) * 3 + 1 * (j 0).val = (j 0).val; omega
  | ⟨1, _⟩ => show win0_5.index t (1 : Fin 4) * 5 + 1 * (j 1).val = (j 1).val; omega
  | ⟨2, _⟩ => show win0_5.index t (2 : Fin 4) * 64 + 1 * (j 2).val = (j 2).val; omega
  | ⟨3, _⟩ => show win0_5.index t (3 : Fin 4) * 96 + 1 * (j 3).val = (j 3).val; omega

theorem hz6 : (![0, 0, 0, 0] : Fin 4 → Nat) = fun _ => 0 := funext fun a => by fin_cases a <;> rfl

/-- Window 6's block index at the one point is zero on every axis. -/
theorem idx_zero6 : ∀ t : Fin cfg0.N, win0_6.index t (0 : Fin 4) = 0 ∧ win0_6.index t (1 : Fin 4) = 0 ∧ win0_6.index t (2 : Fin 4) = 0 ∧ win0_6.index t (3 : Fin 4) = 0 :=
  (by decide +kernel : ∀ t : Fin grid0.N, _)

/-- An index of window 6's block is the same index of its array. -/
theorem emb6 (t : Fin cfg0.N) (j : S3x8x96x640.Idx) : ((cfg0.win 6).blk t).view.emb j = j := by
  obtain ⟨e0, e1, e2, e3⟩ := idx_zero6 t
  funext a; apply Fin.ext
  match a with
  | ⟨0, _⟩ => show win0_6.index t (0 : Fin 4) * 3 + 1 * (j 0).val = (j 0).val; omega
  | ⟨1, _⟩ => show win0_6.index t (1 : Fin 4) * 8 + 1 * (j 1).val = (j 1).val; omega
  | ⟨2, _⟩ => show win0_6.index t (2 : Fin 4) * 96 + 1 * (j 2).val = (j 2).val; omega
  | ⟨3, _⟩ => show win0_6.index t (3 : Fin 4) * 640 + 1 * (j 3).val = (j 3).val; omega

theorem hz7 : (![0, 0, 0, 0] : Fin 4 → Nat) = fun _ => 0 := funext fun a => by fin_cases a <;> rfl

/-- Window 7's block index at the one point is zero on every axis. -/
theorem idx_zero7 : ∀ t : Fin cfg0.N, win0_7.index t (0 : Fin 4) = 0 ∧ win0_7.index t (1 : Fin 4) = 0 ∧ win0_7.index t (2 : Fin 4) = 0 ∧ win0_7.index t (3 : Fin 4) = 0 :=
  (by decide +kernel : ∀ t : Fin grid0.N, _)

/-- An index of window 7's block is the same index of its array. -/
theorem emb7 (t : Fin cfg0.N) (j : S3x8x96x640.Idx) : ((cfg0.win 7).blk t).view.emb j = j := by
  obtain ⟨e0, e1, e2, e3⟩ := idx_zero7 t
  funext a; apply Fin.ext
  match a with
  | ⟨0, _⟩ => show win0_7.index t (0 : Fin 4) * 3 + 1 * (j 0).val = (j 0).val; omega
  | ⟨1, _⟩ => show win0_7.index t (1 : Fin 4) * 8 + 1 * (j 1).val = (j 1).val; omega
  | ⟨2, _⟩ => show win0_7.index t (2 : Fin 4) * 96 + 1 * (j 2).val = (j 2).val; omega
  | ⟨3, _⟩ => show win0_7.index t (3 : Fin 4) * 640 + 1 * (j 3).val = (j 3).val; omega

/-! ### Output window 3: the array after the run -/

/-- What the window's array ends holding: `out0_3` applied to the argument arrays in place of the input blocks (a value that the
    frame states apart, `kK_payN a…`, keeps its loads inside its own definition). -/
abbrev G3 (a0 : Vec F S3x640x6144 .bf16) (a1 : Vec F S3x640x768 .bf16) (a2 : Vec F S3x640x768 .bf16) : Vec F S3x640x6144 .bf16 :=
  k0_pay22 (k0_pay29 a0 a1 a2) (k0_pay20 (k0_pay27 a0 a1 a2) (k0_pay28 a0 a1 a2)) (k0_pay21 (k0_pay24 a0 a1 a2) (k0_pay8 a0) (k0_pay9 a0) (k0_pay13 (k0_pay25 a0 a1 a2)) (k0_pay26 a0 a1 a2)) (iota .tc S1x640 32 [1] iota_S1x640_d1_w32)

/-- A load of the whole of a block reads the block, and the one store through the whole rectangle leaves its payload. -/
theorem out3_eq (a0 : Vec F S3x640x6144 .bf16) (a1 : Vec F S3x640x768 .bf16) (a2 : Vec F S3x640x768 .bf16) : out0_3 (F := F) a0 a1 a2 = G3 a0 a1 a2 := by
  unfold out0_3
  rw [View.canon_unit_zero hz3, View.ld_unit_zero (S := S3x640x6144) hz0 _ a0]

/-- Cutting the point's block out of `X` and reading `X` through the block's view give the same. -/
theorem cut3_eq (t : Fin cfg0.N) (X : Vec F S3x640x6144 .bf16) :
    (cfg0.win 3).cut (grid0.coords t) X = ((cfg0.win 3).blk t).view.read (Elt F) X := by
  funext j
  show X j = X (((cfg0.win 3).blk t).view.emb j)
  rw [emb3]

/-- WHAT THE POINT WRITES BACK is its block of `G3` of the argument arrays as the region finds them. -/
theorem flushed3_eq (c : Dev nD) (t : Fin cfg0.N) :
    (dats m 0 c).flushed 3 t = ((cfg0.win 3).blk t).view.read (Elt F) (G3 (V m c main_arg0) (V m c main_arg1) (V m c main_arg2)) := by
  show (cfg0.win 3).cut (grid0.coords t) ((dats m 0 c).after 3 t) = _
  rw [after0_3, out3_eq, iblk0_eq, iblk1_eq, iblk2_eq]
  exact cut3_eq t _

/-- Every index of the array is in the point's block. -/
theorem covered3 (i : S3x640x6144.Idx) :
    ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

/-- THE ARRAY after the run: `G3` of the argument arrays as launched. -/
theorem final3 (c : Dev nD) : (dats m 0 c).arrAt 3 cfg0.N = G3 (m ((c : Thread nD τ).loc main_arg0)) (m ((c : Thread nD τ).loc main_arg1)) (m ((c : Thread nD τ).loc main_arg2)) :=
  ((dats m 0 c).arrAt_eq_of_cover 3 (G3 (V m c main_arg0) (V m c main_arg1) (V m c main_arg2)) (fun t _ => flushed3_eq m c t) covered3).trans (by rw [V_main_arg0, V_main_arg1, V_main_arg2])

/-! ### Output window 4: the array after the run -/

/-- What the window's array ends holding: `out0_4` applied to the argument arrays in place of the input blocks (a value that the
    frame states apart, `kK_payN a…`, keeps its loads inside its own definition). -/
abbrev G4 (a0 : Vec F S3x640x6144 .bf16) (a1 : Vec F S3x640x768 .bf16) (a2 : Vec F S3x640x768 .bf16) : Vec F S3x64x96x640 .fp8e4m3 :=
  k0_pay23 (k0_pay7 a0)

/-- A load of the whole of a block reads the block, and the one store through the whole rectangle leaves its payload. -/
theorem out4_eq (a0 : Vec F S3x640x6144 .bf16) (a1 : Vec F S3x640x768 .bf16) (a2 : Vec F S3x640x768 .bf16) : out0_4 (F := F) a0 a1 a2 = G4 a0 a1 a2 := by
  unfold out0_4
  rw [View.canon_unit_zero hz4, View.ld_unit_zero (S := S3x640x6144) hz0 _ a0]

/-- Cutting the point's block out of `X` and reading `X` through the block's view give the same. -/
theorem cut4_eq (t : Fin cfg0.N) (X : Vec F S3x64x96x640 .fp8e4m3) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dats m 0 c).flushed 4 t = ((cfg0.win 4).blk t).view.read (Elt F) (G4 (V m c main_arg0) (V m c main_arg1) (V m c main_arg2)) := by
  show (cfg0.win 4).cut (grid0.coords t) ((dats m 0 c).after 4 t) = _
  rw [after0_4, out4_eq, iblk0_eq, iblk1_eq, iblk2_eq]
  exact cut4_eq t _

/-- Every index of the array is in the point's block. -/
theorem covered4 (i : S3x64x96x640.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as launched. -/
theorem final4 (c : Dev nD) : (dats m 0 c).arrAt 4 cfg0.N = G4 (m ((c : Thread nD τ).loc main_arg0)) (m ((c : Thread nD τ).loc main_arg1)) (m ((c : Thread nD τ).loc main_arg2)) :=
  ((dats m 0 c).arrAt_eq_of_cover 4 (G4 (V m c main_arg0) (V m c main_arg1) (V m c main_arg2)) (fun t _ => flushed4_eq m c t) covered4).trans (by rw [V_main_arg0, V_main_arg1, V_main_arg2])

/-! ### Output window 5: the array after the run -/

/-- What the window's array ends holding: `out0_5` applied to the argument arrays in place of the input blocks (a value that the
    frame states apart, `kK_payN a…`, keeps its loads inside its own definition). -/
abbrev G5 (a0 : Vec F S3x640x6144 .bf16) (a1 : Vec F S3x640x768 .bf16) (a2 : Vec F S3x640x768 .bf16) : Vec F S3x5x64x96 .bf16 :=
  k0_pay24 a0 a1 a2

/-- The one store through the whole rectangle leaves its payload. -/
theorem out5_eq (a0 : Vec F S3x640x6144 .bf16) (a1 : Vec F S3x640x768 .bf16) (a2 : Vec F S3x640x768 .bf16) : out0_5 (F := F) a0 a1 a2 = G5 a0 a1 a2 := by
  unfold out0_5
  rw [View.canon_unit_zero hz5]

/-- Cutting the point's block out of `X` and reading `X` through the block's view give the same. -/
theorem cut5_eq (t : Fin cfg0.N) (X : Vec F S3x5x64x96 .bf16) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2)) := by
  show (cfg0.win 5).cut (grid0.coords t) ((dats m 0 c).after 5 t) = _
  rw [after0_5, out5_eq, iblk0_eq, iblk1_eq, iblk2_eq]
  exact cut5_eq t _

/-- Every index of the array is in the point's block. -/
theorem covered5 (i : S3x5x64x96.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) :=
  ((dats m 0 c).arrAt_eq_of_cover 5 (G5 (V m c main_arg0) (V m c main_arg1) (V m c main_arg2)) (fun t _ => flushed5_eq m c t) covered5).trans (by rw [V_main_arg0, V_main_arg1, V_main_arg2])

/-! ### Output window 6: the array after the run -/

/-- What the window's array ends holding: `out0_6` applied to the argument arrays in place of the input blocks (a value that the
    frame states apart, `kK_payN a…`, keeps its loads inside its own definition). -/
abbrev G6 (a0 : Vec F S3x640x6144 .bf16) (a1 : Vec F S3x640x768 .bf16) (a2 : Vec F S3x640x768 .bf16) : Vec F S3x8x96x640 .fp8e4m3 :=
  k0_pay1 (k0_pay26 a0 a1 a2)

/-- The one store through the whole rectangle leaves its payload. -/
theorem out6_eq (a0 : Vec F S3x640x6144 .bf16) (a1 : Vec F S3x640x768 .bf16) (a2 : Vec F S3x640x768 .bf16) : out0_6 (F := F) a0 a1 a2 = G6 a0 a1 a2 := by
  unfold out0_6
  rw [View.canon_unit_zero hz6]

/-- Cutting the point's block out of `X` and reading `X` through the block's view give the same. -/
theorem cut6_eq (t : Fin cfg0.N) (X : Vec F S3x8x96x640 .fp8e4m3) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2)) := by
  show (cfg0.win 6).cut (grid0.coords t) ((dats m 0 c).after 6 t) = _
  rw [after0_6, out6_eq, iblk0_eq, iblk1_eq, iblk2_eq]
  exact cut6_eq t _

/-- Every index of the array is in the point's block. -/
theorem covered6 (i : S3x8x96x640.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) :=
  ((dats m 0 c).arrAt_eq_of_cover 6 (G6 (V m c main_arg0) (V m c main_arg1) (V m c main_arg2)) (fun t _ => flushed6_eq m c t) covered6).trans (by rw [V_main_arg0, V_main_arg1, V_main_arg2])

/-! ### Output window 7: the array after the run -/

/-- What the window's array ends holding: `out0_7` applied to the argument arrays in place of the input blocks (a value that the
    frame states apart, `kK_payN a…`, keeps its loads inside its own definition). -/
abbrev G7 (a0 : Vec F S3x640x6144 .bf16) (a1 : Vec F S3x640x768 .bf16) (a2 : Vec F S3x640x768 .bf16) : Vec F S3x8x96x640 .fp8e4m3 :=
  k0_pay2 (k0_pay29 a0 a1 a2)

/-- The one store through the whole rectangle leaves its payload. -/
theorem out7_eq (a0 : Vec F S3x640x6144 .bf16) (a1 : Vec F S3x640x768 .bf16) (a2 : Vec F S3x640x768 .bf16) : out0_7 (F := F) a0 a1 a2 = G7 a0 a1 a2 := by
  unfold out0_7
  rw [View.canon_unit_zero hz7]

/-- Cutting the point's block out of `X` and reading `X` through the block's view give the same. -/
theorem cut7_eq (t : Fin cfg0.N) (X : Vec F S3x8x96x640 .fp8e4m3) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2)) := by
  show (cfg0.win 7).cut (grid0.coords t) ((dats m 0 c).after 7 t) = _
  rw [after0_7, out7_eq, iblk0_eq, iblk1_eq, iblk2_eq]
  exact cut7_eq t _

/-- Every index of the array is in the point's block. -/
theorem covered7 (i : S3x8x96x640.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) :=
  ((dats m 0 c).arrAt_eq_of_cover 7 (G7 (V m c main_arg0) (V m c main_arg1) (V m c main_arg2)) (fun t _ => flushed7_eq m c t) covered7).trans (by rw [V_main_arg0, V_main_arg1, V_main_arg2])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G3 (m ((c : Thread nD τ).loc main_arg0)) (m ((c : Thread nD τ).loc main_arg1)) (m ((c : Thread nD τ).loc main_arg2))
      ∧ r.2.mem ((c : Thread nD τ).loc main_v0_1) = G4 (m ((c : Thread nD τ).loc main_arg0)) (m ((c : Thread nD τ).loc main_arg1)) (m ((c : Thread nD τ).loc main_arg2))
      ∧ r.2.mem ((c : Thread nD τ).loc main_v0_2) = G5 (m ((c : Thread nD τ).loc main_arg0)) (m ((c : Thread nD τ).loc main_arg1)) (m ((c : Thread nD τ).loc main_arg2))
      ∧ r.2.mem ((c : Thread nD τ).loc main_v0_3) = G6 (m ((c : Thread nD τ).loc main_arg0)) (m ((c : Thread nD τ).loc main_arg1)) (m ((c : Thread nD τ).loc main_arg2))
      ∧ r.2.mem ((c : Thread nD τ).loc main_v0_4) = G7 (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(post3 m r h c).trans (final3 m c),
      (post4 m r h c).trans (final4 m c),
      (post5 m r h c).trans (final5 m c),
      (post6 m r h c).trans (final6 m c),
      (post7 m r h c).trans (final7 m c),
      kept_main_arg0 m r h c,
      kept_main_arg1 m r h c,
      kept_main_arg2 m r h c⟩)
    (run_main m ρ)

end Cert.ReferenceIdeal.Value

end
-- ==== Proof.Body.lean ====
module

public import proofs.«01_k».proof.Proof.Gen.KernelIdeal.Skeleton
public import Idealize.ShloMosaic.Lib.Pipeline.FrameBody
public import Idealize.ShloMosaic.Lib.Pointwise

@[expose] public section

/-! The body of the kernel as functions of the row group, the head and the key group. Every operation is the one
    the kernel performs; what the program repeats for each group and head is written here once. -/

set_option maxRecDepth 16384

noncomputable section

namespace Cert.KernelIdeal.Body

open Cert.KernelIdeal Cert.KernelIdeal.Gen Idealize.ShloMosaic Idealize.ShloMosaic.TcCoe Idealize.ShloMosaic.Pointwise Idealize.SL.Sem

theorem slices2 {a b c d o p : ℕ} (h1 : o + c ≤ a) (h2 : p + d ≤ b) : (⟨2, ![a, b]⟩ : Shape).Slices ![o, p] ⟨2, ![c, d]⟩ :=
  ⟨rfl, fun x => by fin_cases x <;> assumption⟩

theorem reduces2 (n m : ℕ) : (⟨2, ![n, m]⟩ : Shape).Reduces [0] ⟨1, ![m]⟩ :=
  ⟨rfl, Nat.one_pos, fun b => by fin_cases b; rfl⟩

theorem concat2 (n : ℕ) : Shape.Concatenates [⟨2, ![n, 128]⟩, ⟨2, ![n, 128]⟩] ⟨2, ![n, 256]⟩ 1 :=
  ⟨le_refl _, fun s hs => by
    have : s = ⟨2, ![n, 128]⟩ := by simpa using hs
    subst this
    exact ⟨rfl, fun b hb => by fin_cases b <;> [rfl; exact absurd rfl hb]⟩, rfl⟩

theorem broadcasts2 (n m : ℕ) : (⟨2, ![1, m]⟩ : Shape).Broadcasts ⟨2, ![n, m]⟩ :=
  ⟨le_refl _, fun a => by fin_cases a <;> [exact .inl rfl; exact .inr fun _ => rfl]⟩

theorem inb2 {a b c d o p : ℕ} (h1 : o + c ≤ a) (h2 : p + d ≤ b) :
    ∀ x, (![o, p] : Fin 2 → ℕ) x + (⟨2, ![c, d]⟩ : Shape).size x ≤ (⟨2, ![a, b]⟩ : Shape).size x :=
  fun x => by fin_cases x <;> assumption

variable {F : FTy → Type} [FloatOps F] [Named F]

/-! ### The scale of a block and the codes -/

section Scale
variable {s : Shape}
def yV (a : FVec F s .f32) : FVec F s .f32 := mulf a (broadcast s (Scalar.ofBits .f32 0x3B124925#32))
def zV (a : FVec F s .f32) : IVec s 1 := cmpf .oeq (yV a) (broadcast s (Scalar.ofBits .f32 0x00000000#32))
def eV (a : FVec F s .f32) : FVec F s .f32 :=
  addf (floor (mulf (log (yV a)) (broadcast s (Named.named κ "log2e" 0x3FB8AA3B#32)))) (broadcast s (Scalar.ofBits .f32 0x3F800000#32))
def scV (a : FVec F s .f32) : FVec F s .f32 := select (zV a) (broadcast s (Scalar.ofBits .f32 0x3F800000#32)) (exp2 (eV a))
def ivV (a : FVec F s .f32) : FVec F s .f32 :=
  select (zV a) (broadcast s (Scalar.ofBits .f32 0x3F800000#32)) (exp2 (subf (broadcast s (Scalar.ofBits .f32 0x00000000#32)) (eV a)))
def clV (z : FVec F s .f32) : FVec F s .fp8e4m3 :=
  truncf .fp8e4m3 (minimumf (broadcast s (Scalar.ofBits .f32 0x43E00000#32)) (maximumf (broadcast s (Scalar.ofBits .f32 0xC3E00000#32)) z)) bitsLt_fp8e4m3_f32
def capV (z : FVec F s .f32) : FVec F s .f32 :=
  minimumf (broadcast s (Scalar.ofBits .f32 0x71800000#32)) (maximumf (broadcast s (Scalar.ofBits .f32 0xF1800000#32)) z)
def clpV (z : FVec F s .f32) : FVec F s .f32 :=
  minimumf (broadcast s (Scalar.ofBits .f32 0x43E00000#32)) (maximumf (broadcast s (Scalar.ofBits .f32 0x00000000#32)) z)
end Scale

variable (i : grid0.Coords) (XA : Vec F S1x640x768 .bf16) (XW : Fin 4 → Vec F S1x640x256 .bf16) (KW VW : Vec F S1x640x256 .bf16)

/-! ### Keys and values -/

def selK : FVec F S96x256 .bf16 :=
  truncf .bf16 (select (k0_pay9 i) (broadcast S96x256 (Scalar.ofBits .f32 0x3F800000#32)) (broadcast S96x256 (Scalar.ofBits .f32 0x00000000#32))) bitsLt_bf16_f32
def rawK (W : Vec F S1x640x256 .bf16) : FVec F S96x640 .f32 :=
  matmul dot_S96x256_S640x256_S96x640_1_1_0_0_n_n none (selK i) (shapeCast S640x256 W shapeCasts_S1x640x256_S640x256 : FVec F S640x256 .bf16) (constant S96x640 .f32 0x00000000#32)
def mkV : FVec F S96x1 .bf16 :=
  truncf .bf16 (divf (shapeCast S96x1 (multiReduction .add [1] S96 (rawK i KW) 0x00000000#32 reduces_S96x640_S96 (.inl rfl) rfl) shapeCasts_S96_S96x1)
    (broadcast S96x1 (Scalar.ofBits .f32 0x44200000#32))) bitsLt_bf16_f32
def kdV : FVec F S96x640 .f32 := subf (rawK i KW) (broadcastTo S96x640 (extf .f32 (mkV i KW) bitsLt_bf16_f32) broadcasts_S96x1_S96x640)
def loV : IVec S1x128 1 := cmpi .slt (iota .tc S1x128 32 [1] iota_S1x128_d1_w32) (broadcast S1x128 64#32)
def kblk (j : Fin 5) : FVec F S96x128 .f32 := extractStridedSlice S96x128 ![0, 128 * j.val] (kdV i KW) (slices2 (by omega) (by omega))
def kcm (j : Fin 5) : FVec F S1x128 .f32 :=
  shapeCast S1x128 (multiReduction .maximumf [0] S128 (absf (kblk i KW j)) 0xFF800000#32 reduces_S96x128_S128 (.inl rfl) rfl) shapeCasts_S128_S1x128
def kmx0 (j : Fin 5) : FVec F S1x1 .f32 :=
  shapeCast S1x1 (multiReduction .maximumf [1] S1 (select loV (kcm i KW j) (broadcast S1x128 (Scalar.ofBits .f32 0x00000000#32)))
    0xFF800000#32 reduces_S1x128_S1 (.inl rfl) rfl) shapeCasts_S1_S1x1
def kmx1 (j : Fin 5) : FVec F S1x1 .f32 :=
  shapeCast S1x1 (multiReduction .maximumf [1] S1 (select loV (broadcast S1x128 (Scalar.ofBits .f32 0x00000000#32)) (kcm i KW j))
    0xFF800000#32 reduces_S1x128_S1 (.inl rfl) rfl) shapeCasts_S1_S1x1
/-- The scale of key group `n`. -/
def skV (n : Fin 10) : FVec F S1x1 .f32 :=
  match n with
  | 0 => scV (kmx0 i KW 0) | 1 => scV (kmx1 i KW 0) | 2 => scV (kmx0 i KW 1) | 3 => scV (kmx1 i KW 1) | 4 => scV (kmx0 i KW 2)
  | 5 => scV (kmx1 i KW 2) | 6 => scV (kmx0 i KW 3) | 7 => scV (kmx1 i KW 3) | 8 => scV (kmx0 i KW 4) | 9 => scV (kmx1 i KW 4)
def kcode (j : Fin 5) : FVec F S96x128 .fp8e4m3 :=
  clV (mulf (kblk i KW j) (broadcastTo S96x128 (select loV
    (broadcastTo S1x128 (shapeCast S1x1 (ivV (kmx0 i KW j)) shapeCasts_S1x1_S1x1) broadcasts_S1x1_S1x128)
    (broadcastTo S1x128 (shapeCast S1x1 (ivV (kmx1 i KW j)) shapeCasts_S1x1_S1x1) broadcasts_S1x1_S1x128)) broadcasts_S1x128_S96x128))
def kcV : FVec F S96x640 .fp8e4m3 :=
  concatenate S96x640 1 [⟨S96x128, kcode i KW 0⟩, ⟨S96x128, kcode i KW 1⟩, ⟨S96x128, kcode i KW 2⟩, ⟨S96x128, kcode i KW 3⟩, ⟨S96x128, kcode i KW 4⟩]
    concatenates_S96x128_S96x128_S96x128_S96x128_S96x128_S96x640_d1
def kbV : FVec F S640x96 .bf16 := transpose S640x96 [1, 0] (extf .bf16 (kcV i KW) bitsLt_fp8e4m3_bf16) transposes_S96x640_p1_0_S640x96
def k8V : FVec F S640x96 .fp8e4m3 := truncf .fp8e4m3 (kbV i KW) bitsLt_fp8e4m3_bf16
def vaV : FVec F S96x1 .f32 :=
  shapeCast S96x1 (multiReduction .maximumf [1] S96 (absf (rawK i VW)) 0xFF800000#32 reduces_S96x640_S96 (.inl rfl) rfl) shapeCasts_S96_S96x1
def vcV : FVec F S96x640 .fp8e4m3 := clV (mulf (rawK i VW) (broadcastTo S96x640 (ivV (vaV i VW)) broadcasts_S96x1_S96x640))

/-! ### Queries -/

def indV : FVec F S8x640 .bf16 :=
  truncf .bf16 (select
    (andi (cmpi .sge (iota .tc S8x640 32 [1] iota_S8x640_d1_w32) (muli (iota .tc S8x640 32 [0] iota_S8x640_d0_w32) (broadcast S8x640 128#32)))
      (cmpi .slt (iota .tc S8x640 32 [1] iota_S8x640_d1_w32)
        (addi (muli (iota .tc S8x640 32 [0] iota_S8x640_d0_w32) (broadcast S8x640 128#32)) (broadcast S8x640 128#32))))
    (broadcast S8x640 (Scalar.ofBits .f32 0x3C000000#32)) (broadcast S8x640 (Scalar.ofBits .f32 0x00000000#32))) bitsLt_bf16_f32
/-- The means of the row groups, `[768, 8]`. -/
def mqV : FVec F S768x8 .f32 :=
  transpose S768x8 [1, 0] (extf .f32 (truncf .bf16 (matmul dot_S8x640_S640x768_S8x768_1_0_0_1_n_n none indV
    (shapeCast S640x768 XA shapeCasts_S1x640x768_S640x768 : FVec F S640x768 .bf16) (constant S8x768 .f32 0x00000000#32)) bitsLt_bf16_f32) bitsLt_bf16_f32)
    transposes_S8x768_p1_0_S768x8
def selX (o : BitVec 32) : FVec F S192x256 .bf16 :=
  truncf .bf16 (select (cmpi .eq (iota .tc S192x256 32 [1] iota_S192x256_d1_w32)
    (addi (iota .tc S192x256 32 [0] iota_S192x256_d0_w32) (broadcast S192x256 o)))
    (broadcast S192x256 (Scalar.ofBits .f32 0x3F800000#32)) (broadcast S192x256 (Scalar.ofBits .f32 0x00000000#32))) bitsLt_bf16_f32
def selOff (p : Fin 4) : BitVec 32 := match p with | 0 => 0#32 | 1 => 64#32 | 2 => 0#32 | 3 => 64#32
def rawX (p : Fin 4) : FVec F S192x640 .f32 :=
  matmul dot_S192x256_S640x256_S192x640_1_1_0_0_n_n none (selX (selOff p)) (shapeCast S640x256 (XW p) shapeCasts_S1x640x256_S640x256 : FVec F S640x256 .bf16)
    (constant S192x640 .f32 0x00000000#32)
def mcV (p : Fin 4) (u : Fin 2) (g : Fin 5) : FVec F S96x1 .f32 :=
  extractStridedSlice S96x1 ![96 * (2 * p.val + u.val), g.val] (mqV XA) (slices2 (by omega) (by omega))
def qdV (p : Fin 4) (u : Fin 2) (g : Fin 5) : FVec F S96x128 .f32 :=
  subf (extractStridedSlice S96x128 ![96 * u.val, 128 * g.val] (rawX XW p) (slices2 (by omega) (by omega)))
    (broadcastTo S96x128 (mcV XA p u g) broadcasts_S96x1_S96x128)
def qaV (p : Fin 4) (u : Fin 2) (g : Fin 5) : FVec F S1x1 .f32 :=
  broadcast S1x1 (extractAt ![0, 0, 0] (shapeCast S1x1x1 (multiReduction .maximumf [1, 2] S1
    (shapeCast S1x96x128 (absf (qdV XA XW p u g)) shapeCasts_S96x128_S1x96x128 : FVec F S1x96x128 .f32) 0xFF800000#32 reduces_S1x96x128_S1 (.inl rfl) rfl : FVec F S1 .f32)
    shapeCasts_S1_S1x1x1 : FVec F S1x1x1 .f32) inpos_S1x1x1_p0_0_0)
def qcode (p : Fin 4) (u : Fin 2) (g : Fin 5) : FVec F S96x128 .fp8e4m3 :=
  clV (mulf (qdV XA XW p u g) (broadcastTo S96x128 (ivV (qaV XA XW p u g)) broadcasts_S1x1_S96x128))
def mrepH (p : Fin 4) (u : Fin 2) (g : Fin 5) : FVec F S96x128 .bf16 :=
  truncf .bf16 (broadcastTo S96x128 (shapeCast S96x1 (capV (mulf (mcV XA p u g) (broadcastTo S96x1 (ivV (qaV XA XW p u g)) broadcasts_S1x1_S96x1)))
    shapeCasts_S96x1_S96x1) broadcasts_S96x1_S96x128) bitsLt_bf16_f32
def qcode2 (p : Fin 4) (g : Fin 5) : FVec F S96x256 .fp8e4m3 :=
  concatenate S96x256 1 [⟨S96x128, qcode XA XW p 0 g⟩, ⟨S96x128, qcode XA XW p 1 g⟩] concatenates_S96x128_S96x128_S96x256_d1
def mrep2 (p : Fin 4) (g : Fin 5) : FVec F S96x256 .bf16 :=
  concatenate S96x256 1 [⟨S96x128, mrepH XA XW p 0 g⟩, ⟨S96x128, mrepH XA XW p 1 g⟩] concatenates_S96x128_S96x128_S96x256_d1

/-! ### Scores -/

/-- The first `128 (g + 1)` rows; all of them for the last row group. -/
def rowsTo {φ : FTy} (X : FVec F S640x96 φ) (g : Fin 5) : FVec F ⟨2, ![128 * (g.val + 1), 96]⟩ φ :=
  match g with
  | 0 => extractStridedSlice ⟨2, ![128, 96]⟩ ![0, 0] X (slices2 (by omega) (by omega))
  | 1 => extractStridedSlice ⟨2, ![256, 96]⟩ ![0, 0] X (slices2 (by omega) (by omega))
  | 2 => extractStridedSlice ⟨2, ![384, 96]⟩ ![0, 0] X (slices2 (by omega) (by omega))
  | 3 => extractStridedSlice ⟨2, ![512, 96]⟩ ![0, 0] X (slices2 (by omega) (by omega))
  | 4 => X
/-- The first `128 (g + 1)` columns; all of them for the last row group. -/
def colsTo {φ : FTy} (X : FVec F S96x640 φ) (g : Fin 5) : FVec F ⟨2, ![96, 128 * (g.val + 1)]⟩ φ :=
  match g with
  | 0 => extractStridedSlice ⟨2, ![96, 128]⟩ ![0, 0] X (slices2 (by omega) (by omega))
  | 1 => extractStridedSlice ⟨2, ![96, 256]⟩ ![0, 0] X (slices2 (by omega) (by omega))
  | 2 => extractStridedSlice ⟨2, ![96, 384]⟩ ![0, 0] X (slices2 (by omega) (by omega))
  | 3 => extractStridedSlice ⟨2, ![96, 512]⟩ ![0, 0] X (slices2 (by omega) (by omega))
  | 4 => X
def sV (g : Fin 5) (p : Fin 4) : FVec F ⟨2, ![128 * (g.val + 1), 256]⟩ .f32 :=
  matmul (DotDims.plain (128 * (g.val + 1)) 96 256) none (rowsTo (k8V i KW) g)
    (qcode2 XA XW p g) (constant _ .f32 0x00000000#32)
def cV (g : Fin 5) (p : Fin 4) : FVec F ⟨2, ![128 * (g.val + 1), 256]⟩ .f32 :=
  matmul (DotDims.plain (128 * (g.val + 1)) 96 256) none (rowsTo (kbV i KW) g)
    (mrep2 XA XW p g) (constant _ .f32 0x00000000#32)
def tfull (g : Fin 5) (p : Fin 4) (u : Fin 2) (n : Fin (2 * (g.val + 1))) : FVec F S64x128 .f32 :=
  mulf (addf (extractStridedSlice S64x128 ![64 * n.val, 128 * u.val] (sV i XA XW KW g p) (slices2 (by omega) (by omega)))
      (extractStridedSlice S64x128 ![64 * n.val, 128 * u.val] (cV i XA XW KW g p) (slices2 (by omega) (by omega))))
    (broadcastTo S64x128 (mulf (mulf (scV (qaV XA XW p u g)) (skV i KW ⟨n.val, by omega⟩)) (broadcast S1x1 (Named.named κ "soft" 0x3E16C740#32))) broadcasts_S1x1_S64x128)
def tmask (g : Fin 5) (n : Fin (2 * (g.val + 1))) : IVec S64x128 1 :=
  cmpi .sle (extractStridedSlice S64x128 ![64 * (n.val - 2 * g.val), 0] (iota .tc S128x128 32 [0] iota_S128x128_d0_w32) (slices2 (by omega) (by omega)))
    (extractStridedSlice S64x128 ![64 * (n.val - 2 * g.val), 0] (iota .tc S128x128 32 [1] iota_S128x128_d1_w32) (slices2 (by omega) (by omega)))
/-- The block of scores of key group `n` against row group `g`, keys down, rows across. -/
def tblk (g : Fin 5) (p : Fin 4) (u : Fin 2) (n : Fin (2 * (g.val + 1))) : FVec F S64x128 .f32 :=
  cond (Nat.ble (2 * g.val) n.val) (select (tmask g n) (tfull i XA XW KW g p u n) (broadcast S64x128 (Scalar.ofBits .f32 0xFF800000#32)))
    (tfull i XA XW KW g p u n)

/-- The blocks under one another. -/
def tstack {m : ℕ} (blk : Fin m → FVec F S64x128 .f32) (N : ℕ) (h : N = 64 * m) : FVec F ⟨2, ![N, 128]⟩ .f32 :=
  fun j => blk ⟨(j 0).val / 64, by have := (j 0).isLt; change (j 0).val < N at this; omega⟩
    (ix2 ⟨(j 0).val % 64, Nat.mod_lt _ (by decide)⟩ ⟨(j 1).val, (j 1).isLt⟩)

/-- The running maximum of the blocks, eight sublanes at a time. -/
def tmx {m : ℕ} (blk : Fin m → FVec F S64x128 .f32) : (k : ℕ) → k < m → FVec F S8x128 .f32
  | 0, h => multiReduction .maximumf [0] S8x128 (shapeCast S8x8x128 (blk ⟨0, h⟩) shapeCasts_S64x128_S8x8x128 : FVec F S8x8x128 .f32) 0xFF800000#32 reduces_S8x8x128_S8x128 (.inl rfl) rfl
  | k + 1, h => maximumf (tmx blk k (Nat.lt_of_succ_lt h))
      (multiReduction .maximumf [0] S8x128 (shapeCast S8x8x128 (blk ⟨k + 1, h⟩) shapeCasts_S64x128_S8x8x128 : FVec F S8x8x128 .f32) 0xFF800000#32 reduces_S8x8x128_S8x128 (.inl rfl) rfl)

def mV (X : FVec F S8x128 .f32) : FVec F S1x128 .f32 :=
  subf (shapeCast S1x128 (multiReduction .maximumf [0] S128 X 0xFF800000#32 reduces_S8x128_S128 (.inl rfl) rfl) shapeCasts_S128_S1x128)
    (broadcast S1x128 (Scalar.ofBits .f32 0x41000000#32))
def pV {n : ℕ} (T : FVec F ⟨2, ![n, 128]⟩ .f32) (X : FVec F S8x128 .f32) : FVec F ⟨2, ![n, 128]⟩ .f32 :=
  exp2 (subf T (broadcastTo ⟨2, ![n, 128]⟩ (mV X) (broadcasts2 n 128)))
def lV {n : ℕ} (P : FVec F ⟨2, ![n, 128]⟩ .f32) : FVec F S1x128 .f32 :=
  shapeCast S1x128 (multiReduction .add [0] S128 P 0x00000000#32 (reduces2 n 128) (.inl rfl) rfl) shapeCasts_S128_S1x128
def pcV {n : ℕ} (P : FVec F ⟨2, ![n, 128]⟩ .f32) : FVec F ⟨2, ![n, 128]⟩ .fp8e4m3 := truncf .fp8e4m3 (clpV (clpV P)) bitsLt_fp8e4m3_f32

/-! ### The result -/

/-- What a pair of heads gives, from its two probability blocks. -/
def oV (g : Fin 5) (P0 P1 : FVec F ⟨2, ![128 * (g.val + 1), 128]⟩ .f32) : FVec F S96x256 .bf16 :=
  truncf .bf16 (mulf (mulf (matmul (DotDims.plain 96 (128 * (g.val + 1)) 256) none
      (colsTo (vcV i VW) g)
      (concatenate ⟨2, ![128 * (g.val + 1), 256]⟩ 1 [⟨⟨2, ![128 * (g.val + 1), 128]⟩, pcV P0⟩, ⟨⟨2, ![128 * (g.val + 1), 128]⟩, pcV P1⟩] (concat2 (128 * (g.val + 1))) : FVec F _ .fp8e4m3)
      (constant _ .f32 0x00000000#32))
      (broadcastTo S96x256 (scV (vaV i VW)) broadcasts_S96x1_S96x256))
    (broadcastTo S96x256 (divf (broadcast S1x256 (Scalar.ofBits .f32 0x3F800000#32))
      (concatenate S1x256 1 [⟨S1x128, lV P0⟩, ⟨S1x128, lV P1⟩] concatenates_S1x128_S1x128_S1x256_d1)) broadcasts_S1x256_S96x256)) bitsLt_bf16_f32
def probs (g : Fin 5) (p : Fin 4) (u : Fin 2) : FVec F ⟨2, ![128 * (g.val + 1), 128]⟩ .f32 :=
  pV (tstack (tblk i XA XW KW g p u) (128 * (g.val + 1)) (by omega)) (tmx (tblk i XA XW KW g p u) (2 * g.val + 1) (by omega))
def opair (g : Fin 5) (p : Fin 4) : FVec F S96x256 .bf16 :=
  oV i VW g (probs i XA XW KW g p 0) (probs i XA XW KW g p 1)
def opiece (g : Fin 5) (h : Fin 8) : FVec F S96x128 .bf16 :=
  match h with
  | 0 => shapeCast S96x128 (extractStridedSlice S96x128 ![0, 0] (opair i XA XW KW VW g 0) slices_S96x256_o0_0_S96x128) shapeCasts_S96x128_S96x128
  | 1 => shapeCast S96x128 (extractStridedSlice S96x128 ![0, 128] (opair i XA XW KW VW g 0) slices_S96x256_o0_128_S96x128) shapeCasts_S96x128_S96x128
  | 2 => shapeCast S96x128 (extractStridedSlice S96x128 ![0, 0] (opair i XA XW KW VW g 1) slices_S96x256_o0_0_S96x128) shapeCasts_S96x128_S96x128
  | 3 => shapeCast S96x128 (extractStridedSlice S96x128 ![0, 128] (opair i XA XW KW VW g 1) slices_S96x256_o0_128_S96x128) shapeCasts_S96x128_S96x128
  | 4 => shapeCast S96x128 (extractStridedSlice S96x128 ![0, 0] (opair i XA XW KW VW g 2) slices_S96x256_o0_0_S96x128) shapeCasts_S96x128_S96x128
  | 5 => shapeCast S96x128 (extractStridedSlice S96x128 ![0, 128] (opair i XA XW KW VW g 2) slices_S96x256_o0_128_S96x128) shapeCasts_S96x128_S96x128
  | 6 => shapeCast S96x128 (extractStridedSlice S96x128 ![0, 0] (opair i XA XW KW VW g 3) slices_S96x256_o0_0_S96x128) shapeCasts_S96x128_S96x128
  | 7 => shapeCast S96x128 (extractStridedSlice S96x128 ![0, 128] (opair i XA XW KW VW g 3) slices_S96x256_o0_128_S96x128) shapeCasts_S96x128_S96x128

def ostack (g : Fin 5) : FVec F S768x128 .bf16 :=
  fun j => opiece i XA XW KW VW g ⟨(j 0).val / 96, by have := (j 0).isLt; change (j 0).val < 768 at this; omega⟩
    (ix2 ⟨(j 0).val % 96, Nat.mod_lt _ (by decide)⟩ ⟨(j 1).val, (j 1).isLt⟩)
def orow (g : Fin 5) : FVec F S1x128x768 .bf16 :=
  shapeCast S1x128x768 (transpose S128x768 [1, 0] (ostack i XA XW KW VW g) transposes_S768x128_p1_0_S128x768) shapeCasts_S128x768_S1x128x768
/-- The block of the result a grid point writes. -/
def OUT : Vec F S1x640x768 .bf16 :=
  fun j => orow i XA XW KW VW ⟨(j 1).val / 128, by have := (j 1).isLt; change (j 1).val < 640 at this; omega⟩
    (ix3 ⟨(j 0).val, (j 0).isLt⟩ ⟨(j 1).val % 128, Nat.mod_lt _ (by decide)⟩ ⟨(j 2).val, (j 2).isLt⟩)

end Cert.KernelIdeal.Body
-- ==== Proof.Reads.lean ====
module

public import proofs.«01_k».proof.Proof.Body
public import Idealize.ShloMosaic.Lib.WritesUnit

@[expose] public section

/-! What the loads of the two scratch buffers and the store of the result read, from the pieces written. -/

set_option maxRecDepth 16384

noncomputable section

namespace Cert.KernelIdeal.Body

open Cert.KernelIdeal Cert.KernelIdeal.Gen Idealize.ShloMosaic Idealize.ShloMosaic.TcCoe Idealize.ShloMosaic.Pointwise Idealize.SL.Sem

variable {F : FTy → Type} [FloatOps F] [Named F]
variable {sig' : RefSig} {κ' : Kind} {sp : Space}

/-- The blocks `k - 1, …, 0` under one another at lane offset `off`, newest first, over the older writes `L`. -/
def tpieces {m : ℕ} (hm : 64 * m ≤ 640) (off : ℕ) (hoff : off + 128 ≤ 256) (blk : Fin m → FVec F S64x128 .f32) :
    (k : ℕ) → k ≤ m → List (View.Piece (Elt F) S640x256 .f32) → List (View.Piece (Elt F) S640x256 .f32)
  | 0, _, L => L
  | k + 1, h, L => ⟨Rect.unit (s := S640x256) ![64 * k, off] S64x128.size (inb2 (a := 640) (b := 256) (c := 64) (d := 128) (by omega) hoff),
      (shapeCast S64x128 (blk ⟨k, h⟩) shapeCasts_S64x128_S64x128 : FVec F S64x128 .f32)⟩
      :: tpieces hm off hoff blk k (Nat.le_of_succ_le h) L

theorem tpieces_read {m : ℕ} (hm : 64 * m ≤ 640) (off : ℕ) (hoff : off + 128 ≤ 256) (blk : Fin m → FVec F S64x128 .f32)
    (v : View sig' κ' sp S640x256 .f32) (f : v.ty.Contents (Elt F)) (L : List (View.Piece (Elt F) S640x256 .f32)) (y : S640x256.Idx) (x1 : Fin 128) (h1 : (y 1).val = off + x1.val) :
    ∀ (k : ℕ) (hk : k ≤ m) (b : Fin m) (x0 : Fin 64), b.val < k → (y 0).val = 64 * b.val + x0.val →
      v.read (Elt F) (v.writes (Elt F) f (tpieces hm off hoff blk k hk L)) y = blk b (ix2 x0 x1)
  | 0, _, _, _, hb, _ => absurd hb (Nat.not_lt_zero _)
  | k + 1, hk, b, x0, hb, h0 => by
    unfold tpieces
    rw [shapeCast_id]
    by_cases hbk : b.val = k
    · obtain rfl : b = ⟨k, hk⟩ := Fin.ext hbk
      refine View.read_writes_cons_unit_of_mem v f _ _ _ y (ix2 x0 x1) rfl ?_
      intro a; fin_cases a
      · exact h0
      · exact h1
    · rw [View.read_writes_cons_unit_of_not_mem v f _ _ _ y rfl 0 (Or.inl (by
        show (y 0).val < 64 * k
        have := x0.isLt
        omega))]
      exact tpieces_read hm off hoff blk v f L y x1 h1 k _ b x0 (by omega) h0

theorem tstack_read {m N off : ℕ} (hN : N = 64 * m) (hm : 64 * m ≤ 640) (hoff : off + 128 ≤ 256) (blk : Fin m → FVec F S64x128 .f32)
    (v : View sig' κ' sp S640x256 .f32) (L : List (View.Piece (Elt F) S640x256 .f32)) (inb) :
    v.readCov (tpieces hm off hoff blk m (le_refl _) L) (Rect.unit (s := S640x256) ![0, off] (⟨2, ![N, 128]⟩ : Shape).size inb).toLoadRect
      = tstack blk N hN := by
  funext j
  have hj0 : (j 0).val < N := (j 0).isLt
  have hj1 : (j 1).val < 128 := (j 1).isLt
  refine tpieces_read hm off hoff blk v _ L _ ⟨(j 1).val, hj1⟩ ?_ m (le_refl _) ⟨(j 0).val / 64, by omega⟩ ⟨(j 0).val % 64, Nat.mod_lt _ (by decide)⟩ ?_ ?_
  · show off + 1 * (j 1).val = off + (j 1).val
    omega
  · show (j 0).val / 64 < m
    omega
  · show 0 + 1 * (j 0).val = 64 * ((j 0).val / 64) + (j 0).val % 64
    omega

/-- The pieces of the eight heads, newest first, over the older writes `L`. -/
def opieces (P : Fin 8 → FVec F S96x128 .bf16) :
    (k : ℕ) → k ≤ 8 → List (View.Piece (Elt F) S768x128 .bf16) → List (View.Piece (Elt F) S768x128 .bf16)
  | 0, _, L => L
  | k + 1, h, L => ⟨Rect.unit (s := S768x128) ![96 * k, 0] S96x128.size (inb2 (a := 768) (b := 128) (c := 96) (d := 128) (by omega) (by omega)), P ⟨k, h⟩⟩
      :: opieces P k (Nat.le_of_succ_le h) L

theorem opieces_read (P : Fin 8 → FVec F S96x128 .bf16)
    (v : View sig' κ' sp S768x128 .bf16) (f : v.ty.Contents (Elt F)) (L : List (View.Piece (Elt F) S768x128 .bf16)) (y : S768x128.Idx) (x1 : Fin 128) (h1 : (y 1).val = x1.val) :
    ∀ (k : ℕ) (hk : k ≤ 8) (b : Fin 8) (x0 : Fin 96), b.val < k → (y 0).val = 96 * b.val + x0.val →
      v.read (Elt F) (v.writes (Elt F) f (opieces P k hk L)) y = P b (ix2 x0 x1)
  | 0, _, _, _, hb, _ => absurd hb (Nat.not_lt_zero _)
  | k + 1, hk, b, x0, hb, h0 => by
    unfold opieces
    by_cases hbk : b.val = k
    · obtain rfl : b = ⟨k, hk⟩ := Fin.ext hbk
      refine View.read_writes_cons_unit_of_mem v f _ _ _ y (ix2 x0 x1) rfl ?_
      intro a; fin_cases a
      · exact h0
      · show (y 1).val = 0 + x1.val
        omega
    · rw [View.read_writes_cons_unit_of_not_mem v f _ _ _ y rfl 0 (Or.inl (by
        show (y 0).val < 96 * k
        have := x0.isLt
        omega))]
      exact opieces_read P v f L y x1 h1 k _ b x0 (by omega) h0

variable (i : grid0.Coords) (XA : Vec F S1x640x768 .bf16) (XW : Fin 4 → Vec F S1x640x256 .bf16) (KW VW : Vec F S1x640x256 .bf16)

/-- The load of the heads' pieces of row group `g`. -/
theorem ostack_read (g : Fin 5) (v : View sig' κ' sp S768x128 .bf16) (L : List (View.Piece (Elt F) S768x128 .bf16)) (inb)
    (P : Fin 8 → FVec F S96x128 .bf16) (hP : ∀ h, P h = opiece i XA XW KW VW g h) :
    v.readCov (opieces P 8 (le_refl _) L) (Rect.unit (s := S768x128) ![0, 0] S768x128.size inb).toLoadRect = ostack i XA XW KW VW g := by
  obtain rfl : P = opiece i XA XW KW VW g := funext hP
  funext j
  have hj0 : (j 0).val < 768 := (j 0).isLt
  have hj1 : (j 1).val < 128 := (j 1).isLt
  refine opieces_read _ v _ L _ ⟨(j 1).val, hj1⟩ ?_ 8 (le_refl _) ⟨(j 0).val / 96, by omega⟩ ⟨(j 0).val % 96, Nat.mod_lt _ (by decide)⟩ ?_ ?_
  · show 0 + 1 * (j 1).val = (j 1).val
    omega
  · show (j 0).val / 96 < 8
    omega
  · show 0 + 1 * (j 0).val = 96 * ((j 0).val / 96) + (j 0).val % 96
    omega

/-- The pieces of the row groups, newest first. -/
def rpieces (R : Fin 5 → FVec F S1x128x768 .bf16) :
    (k : ℕ) → k ≤ 5 → List (View.Piece (Elt F) S1x640x768 .bf16)
  | 0, _ => []
  | k + 1, h => ⟨Rect.unit (s := S1x640x768) ![0, 128 * k, 0] S1x128x768.size (by
        intro a
        fin_cases a
        · show 0 + 1 ≤ 1; omega
        · show 128 * k + 128 ≤ 640; omega
        · show 0 + 768 ≤ 768; omega), R ⟨k, h⟩⟩
      :: rpieces R k (Nat.le_of_succ_le h)

theorem rpieces_read (R : Fin 5 → FVec F S1x128x768 .bf16)
    (v : View sig' κ' sp S1x640x768 .bf16) (f : v.ty.Contents (Elt F)) (y : S1x640x768.Idx) :
    ∀ (k : ℕ) (hk : k ≤ 5) (b : Fin 5) (x1 : Fin 128), b.val < k → (y 1).val = 128 * b.val + x1.val →
      v.read (Elt F) (v.writes (Elt F) f (rpieces R k hk)) y
        = R b (ix3 ⟨(y 0).val, (y 0).isLt⟩ x1 ⟨(y 2).val, (y 2).isLt⟩)
  | 0, _, _, _, hb, _ => absurd hb (Nat.not_lt_zero _)
  | k + 1, hk, b, x1, hb, h1 => by
    unfold rpieces
    by_cases hbk : b.val = k
    · obtain rfl : b = ⟨k, hk⟩ := Fin.ext hbk
      refine View.read_writes_cons_unit_of_mem v f _ _ _ y
        (ix3 ⟨(y 0).val, (y 0).isLt⟩ x1 ⟨(y 2).val, (y 2).isLt⟩) rfl ?_
      intro a; fin_cases a
      · show (y 0).val = 0 + (y 0).val
        omega
      · exact h1
      · show (y 2).val = 0 + (y 2).val
        omega
    · rw [View.read_writes_cons_unit_of_not_mem v f _ _ _ y rfl 1 (Or.inl (by
        show (y 1).val < 128 * k
        have := x1.isLt
        omega))]
      exact rpieces_read R v f y k _ b x1 (by omega) h1

/-- What the stores of the row groups leave of the result. -/
theorem OUT_read (v : View sig' κ' sp S1x640x768 .bf16) (f : v.ty.Contents (Elt F))
    (R : Fin 5 → FVec F S1x128x768 .bf16) (hR : ∀ g, R g = orow i XA XW KW VW g) :
    v.read (Elt F) (v.writes (Elt F) f (rpieces R 5 (le_refl _))) = OUT i XA XW KW VW := by
  obtain rfl : R = orow i XA XW KW VW := funext hR
  funext j
  have hj1 : (j 1).val < 640 := (j 1).isLt
  refine rpieces_read _ v f j 5 (le_refl _) ⟨(j 1).val / 128, by omega⟩ ⟨(j 1).val % 128, Nat.mod_lt _ (by decide)⟩ ?_ ?_
  · show (j 1).val / 128 < 5
    omega
  · show (j 1).val = 128 * ((j 1).val / 128) + (j 1).val % 128
    omega

/-- A pair of heads from the loads of its two blocks of scores. -/
theorem opair_read (g : Fin 5) (p : Fin 4) (v : View sig' κ' sp S640x256 .f32) (L0 L1 : List (View.Piece (Elt F) S640x256 .f32)) (inb0 inb1) :
    oV i VW g
      (pV (v.readCov (tpieces (by omega) 0 (by omega) (tblk i XA XW KW g p 0) (2 * (g.val + 1)) (le_refl _) L0)
          (Rect.unit (s := S640x256) ![0, 0] (⟨2, ![128 * (g.val + 1), 128]⟩ : Shape).size inb0).toLoadRect)
        (tmx (tblk i XA XW KW g p 0) (2 * g.val + 1) (by omega)))
      (pV (v.readCov (tpieces (by omega) 128 (by omega) (tblk i XA XW KW g p 1) (2 * (g.val + 1)) (le_refl _) L1)
          (Rect.unit (s := S640x256) ![0, 128] (⟨2, ![128 * (g.val + 1), 128]⟩ : Shape).size inb1).toLoadRect)
        (tmx (tblk i XA XW KW g p 1) (2 * g.val + 1) (by omega)))
      = opair i XA XW KW VW g p := by
  have e0 := tstack_read (F := F) (m := 2 * (g.val + 1)) (N := 128 * (g.val + 1)) (off := 0) (by omega) (by omega) (by omega) (tblk i XA XW KW g p 0) v L0 inb0
  have e1 := tstack_read (F := F) (m := 2 * (g.val + 1)) (N := 128 * (g.val + 1)) (off := 128) (by omega) (by omega) (by omega) (tblk i XA XW KW g p 1) v L1 inb1
  unfold opair probs
  rw [← e0, ← e1]

/-- The two heads of a pair. -/
def half0 (Q : FVec F S96x256 .bf16) : FVec F S96x128 .bf16 :=
  shapeCast S96x128 (extractStridedSlice S96x128 ![0, 0] Q slices_S96x256_o0_0_S96x128) shapeCasts_S96x128_S96x128
def half1 (Q : FVec F S96x256 .bf16) : FVec F S96x128 .bf16 :=
  shapeCast S96x128 (extractStridedSlice S96x128 ![0, 128] Q slices_S96x256_o0_128_S96x128) shapeCasts_S96x128_S96x128

/-- A row group from its four pairs of heads. -/
theorem orow_read (g : Fin 5) (v : View sig' κ' sp S768x128 .bf16) (L : List (View.Piece (Elt F) S768x128 .bf16)) (inb)
    (Q0 Q1 Q2 Q3 : FVec F S96x256 .bf16) (h0 : Q0 = opair i XA XW KW VW g 0) (h1 : Q1 = opair i XA XW KW VW g 1)
    (h2 : Q2 = opair i XA XW KW VW g 2) (h3 : Q3 = opair i XA XW KW VW g 3) :
    shapeCast S1x128x768 (transpose S128x768 [1, 0]
      (v.readCov (opieces (fun h => match h with
        | 0 => half0 Q0 | 1 => half1 Q0 | 2 => half0 Q1 | 3 => half1 Q1 | 4 => half0 Q2 | 5 => half1 Q2 | 6 => half0 Q3 | 7 => half1 Q3) 8 (le_refl _) L)
        (Rect.unit (s := S768x128) ![0, 0] S768x128.size inb).toLoadRect)
      transposes_S768x128_p1_0_S128x768) shapeCasts_S128x768_S1x128x768 = orow i XA XW KW VW g := by
  subst h0 h1 h2 h3
  unfold orow
  rw [ostack_read i XA XW KW VW g v L inb _ (fun h => by fin_cases h <;> rfl)]

/-- The result from its five row groups. -/
theorem OUT_read' (v : View sig' κ' sp S1x640x768 .bf16) (f : v.ty.Contents (Elt F)) (R0 R1 R2 R3 R4 : FVec F S1x128x768 .bf16)
    (h0 : R0 = orow i XA XW KW VW 0) (h1 : R1 = orow i XA XW KW VW 1) (h2 : R2 = orow i XA XW KW VW 2)
    (h3 : R3 = orow i XA XW KW VW 3) (h4 : R4 = orow i XA XW KW VW 4) :
    v.read (Elt F) (v.writes (Elt F) f (rpieces (fun g => match g with | 0 => R0 | 1 => R1 | 2 => R2 | 3 => R3 | 4 => R4) 5 (le_refl _)))
      = OUT i XA XW KW VW :=
  OUT_read i XA XW KW VW v f _ fun g => by fin_cases g <;> assumption

/-! ### The blocks a grid point is given -/

def ldA (x : Vec F S1x640x768 .bf16) : Vec F S1x640x768 .bf16 := View.ld x (Rect.unit (s := S1x640x768) ![0, 0, 0] S1x640x768.size inb_S1x640x768_S1x640x768_0_0_0)
def ldW (x : Vec F S1x640x768 .bf16) : Fin 4 → Vec F S1x640x256 .bf16 := fun p => match p with
  | 0 => View.ld x (Rect.unit (s := S1x640x768) ![0, 0, 0] S1x640x256.size inb_S1x640x768_S1x640x256_0_0_0)
  | 1 => View.ld x (Rect.unit (s := S1x640x768) ![0, 0, 128] S1x640x256.size inb_S1x640x768_S1x640x256_0_0_128)
  | 2 => View.ld x (Rect.unit (s := S1x640x768) ![0, 0, 384] S1x640x256.size inb_S1x640x768_S1x640x256_0_0_384)
  | 3 => View.ld x (Rect.unit (s := S1x640x768) ![0, 0, 512] S1x640x256.size inb_S1x640x768_S1x640x256_0_0_512)
def ldK (x : Vec F S1x640x768 .bf16) : Vec F S1x640x256 .bf16 := View.ld x (Rect.unit (s := S1x640x768) (k0_off1 i) S1x640x256.size (k0_off1_inb i))
/-- What a grid point writes of the result, from the blocks it is given. -/
def outAt (x0 x1 x2 : Vec F S1x640x768 .bf16) : Vec F S1x640x768 .bf16 := OUT i (ldA x0) (ldW x0) (ldK i x1) (ldK i x2)

end Cert.KernelIdeal.Body
-- ==== Proof.Runs.lean ====
module

public import proofs.«01_k».proof.Proof.Reads
public import proofs.«01_k».proof.Proof.Gen.KernelIdeal.Frame
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WritesUnit

@[expose] public section

/-! What the run of the kernel's body is stated over: its branch conditions, its staging memrefs and scratch. -/

set_option maxRecDepth 16384

noncomputable section

namespace Cert.KernelIdeal.Run

open Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_0 : ∀ t : Fin cfg0.N, cond0_0 (grid0.coords t) ↔ t.val % 8 = 0 :=
  (fun t => by
    have ht : t.val < 24 := Nat.lt_of_lt_of_eq t.isLt N_0
    have e0 : (grid0.coords t 0).val = t.val / 8 % 3 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := (Scalar.cmpi .ne (Scalar.extui (Scalar.andi (Scalar.cmpi .eq (BitVec.ofNat 32 (i 1).val) 0#32) (Scalar.cmpi .eq (BitVec.ofNat 32 (i 0).val) 0#32))) 0#32) = 1#1
/-- It holds at the first point only — by arithmetic of the point. -/
theorem hcond0_1 : ∀ t : Fin cfg0.N, cond0_1 (grid0.coords t) ↔ t.val % 24 = 0 :=
  (fun t => by
    have ht : t.val < 24 := Nat.lt_of_lt_of_eq t.isLt N_0
    have e0 : (grid0.coords t 0).val = t.val / 8 % 3 := Pipeline.Grid.coords_val t 0 (by decide) rfl
    have e1 : (grid0.coords t 1).val = t.val / 1 % 8 := Pipeline.Grid.coords_val t 1 (by decide) rfl
    simp only [cond0_1, e0, e1]
    word_cmp
   : ∀ t : Fin grid0.N, cond0_1 (grid0.coords t) ↔ t.val % 24 = 0)

/-- Each window's current staging memref at point `t`, spelled as the pipeline passes it (`bodyAt0`), and its wholeness. -/
abbrev ms0_0 (t : Fin cfg0.N) : Memref sig .tc .vmem S1x640x768 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x640x768 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x640x768 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x640x768 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x96x640 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S5x3x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x5x8x96 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x96x640 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x8x10 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x8x96 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x96x640 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x8x96 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S640x256 .f32 := Memref.whole cc0_scratch0
abbrev scM0_1 : Memref sig .tc .vmem S768x128 .bf16 := Memref.whole cc0_scratch1
abbrev scM0_2 : Memref sig .tc .vmem S64x128 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Run

end
-- ==== Proof.Spec.lean ====
module

public import Idealize.ShloMosaic.Lib.Pointwise

@[expose] public section

/-! One head of the attention over the extended reals, written twice: as the mathematics has it and as the
    kernel arranges it. The two agree (`kerO_eq_refO`). -/

noncomputable section

namespace Cert.Spec

open Idealize.ShloMosaic

/-! ### Constants -/

def c448 : EReal := Ideal.ofBits .f32 0x3B124925#32
def lo : EReal := Ideal.ofBits .f32 0xC3E00000#32
def hi : EReal := Ideal.ofBits .f32 0x43E00000#32
def capLo : EReal := Ideal.ofBits .f32 0xF1800000#32
def capHi : EReal := Ideal.ofBits .f32 0x71800000#32
def c640 : EReal := Ideal.ofBits .f32 0x44200000#32
def c128 : EReal := Ideal.ofBits .f32 0x43000000#32
def i128 : EReal := Ideal.ofBits .f32 0x3C000000#32
def c8 : EReal := Ideal.ofBits .f32 0x41000000#32
def c256 : EReal := Ideal.ofBits .f32 0x43800000#32
def i256 : EReal := Ideal.ofBits .f32 0x3B800000#32
def scale : EReal := Ideal.ofBits .f32 0x3DD105EC#32
def l2e : EReal := (((Real.log 2)⁻¹ : ℝ) : EReal)
def soft : EReal := (((3424635 / 33554432) * (Real.log 2)⁻¹ : ℝ) : EReal)

theorem c448_eq : c448 = ((9586981 / 4294967296 : ℝ) : EReal) := by
  simp [c448, Ideal.ofBits, Ideal.ieee, -EReal.coe_mul]; norm_num
theorem lo_eq : lo = ((-448 : ℝ) : EReal) := by
  simp [lo, Ideal.ofBits, Ideal.ieee, -EReal.coe_mul, -EReal.coe_neg]; norm_num
theorem hi_eq : hi = ((448 : ℝ) : EReal) := by
  simp [hi, Ideal.ofBits, Ideal.ieee, -EReal.coe_mul]; norm_num
theorem capLo_eq : capLo = ((-2 ^ 100 : ℝ) : EReal) := by
  simp [capLo, Ideal.ofBits, Ideal.ieee, -EReal.coe_mul, -EReal.coe_neg]; norm_num
theorem capHi_eq : capHi = ((2 ^ 100 : ℝ) : EReal) := by
  simp [capHi, Ideal.ofBits, Ideal.ieee, -EReal.coe_mul, -EReal.coe_pow]; norm_num
theorem c640_eq : c640 = ((640 : ℝ) : EReal) := by
  simp [c640, Ideal.ofBits, Ideal.ieee, -EReal.coe_mul]; norm_num
theorem c128_eq : c128 = ((128 : ℝ) : EReal) := by
  simp [c128, Ideal.ofBits, Ideal.ieee, -EReal.coe_mul]; norm_num
theorem i128_eq : i128 = ((1 / 128 : ℝ) : EReal) := by
  simp [i128, Ideal.ofBits, Ideal.ieee, -EReal.coe_mul]; norm_num
theorem c8_eq : c8 = ((8 : ℝ) : EReal) := by
  simp [c8, Ideal.ofBits, Ideal.ieee, -EReal.coe_mul]; norm_num
theorem c256_eq : c256 = ((256 : ℝ) : EReal) := by
  simp [c256, Ideal.ofBits, Ideal.ieee, -EReal.coe_mul]; norm_num
theorem i256_eq : i256 = ((1 / 256 : ℝ) : EReal) := by
  simp [i256, Ideal.ofBits, Ideal.ieee, -EReal.coe_mul]; norm_num
theorem scale_eq : scale = ((3424635 / 33554432 : ℝ) : EReal) := by
  simp [scale, Ideal.ofBits, Ideal.ieee, -EReal.coe_mul]; norm_num
theorem bot_eq : Ideal.ofBits .f32 0xFF800000#32 = (⊥ : EReal) := by
  simp [Ideal.ofBits, Ideal.ieee]

/-! ### The scale of a block -/

def ab (x : EReal) : EReal := max x (-x)
def ex (a : EReal) : EReal := Ideal.liftRound Int.floor (Ideal.log (a * c448) * l2e) + 1
/-- The kernel's scale and its inverse. -/
def kS (a : EReal) : EReal := if a * c448 = 0 then 1 else Ideal.exp2 (ex a)
def kI (a : EReal) : EReal := if a * c448 = 0 then 1 else Ideal.exp2 (0 - ex a)
/-- The reference's. -/
def rE (a : EReal) : EReal := if a = 0 then 0 else ex a
def rS (a : EReal) : EReal := Ideal.exp2 (rE a)
def rI (a : EReal) : EReal := Ideal.exp2 (0 - rE a)
def cl (z : EReal) : EReal := min hi (max lo z)
def cap (z : EReal) : EReal := min capHi (max capLo z)
def clp (z : EReal) : EReal := min hi (max 0 z)

theorem mul_c448 (a : EReal) : a * c448 = 0 ↔ a = 0 := by
  rw [c448_eq, mul_eq_zero]; constructor
  · rintro (h | h)
    · exact h
    · exfalso; have : ((9586981 / 4294967296 : ℝ)) = 0 := by exact_mod_cast h
      norm_num at this
  · exact .inl
theorem exp2_zero : Ideal.exp2 0 = 1 := by
  have : Ideal.exp2 ((0 : ℝ) : EReal) = ((1 : ℝ) : EReal) := by rw [Ideal.exp2_coe]; norm_num
  simpa using this
theorem kS_eq (a : EReal) : kS a = rS a := by
  unfold kS rS rE; simp only [mul_c448]; split_ifs <;> simp [exp2_zero]
theorem kI_eq (a : EReal) : kI a = rI a := by
  unfold kI rI rE; simp only [mul_c448]; split_ifs <;> simp [exp2_zero]

theorem ab_nonneg (x : EReal) : 0 ≤ ab x := by
  unfold ab; rcases le_total 0 x with h | h
  · exact le_max_of_le_left h
  · exact le_max_of_le_right (by rw [EReal.le_neg]; simpa using h)

theorem exp2_int (n : ℤ) : Ideal.exp2 (((n : ℝ)) : EReal) = (((2 : ℝ) ^ (n : ℝ) : ℝ) : EReal) := rfl

/-- A real block has a real scale, its inverse is the inverse, and the inverse is below `512 / a`. -/
theorem scale_real (a : ℝ) (ha : 0 ≤ a) : ∃ s : ℝ, 0 < s ∧ rS (a : EReal) = (s : EReal) ∧ rI (a : EReal) = ((s⁻¹ : ℝ) : EReal) ∧ (a ≠ 0 → s⁻¹ * a ≤ 512) ∧ (a = 0 → s = 1) := by
  by_cases h : a = 0
  · subst h
    refine ⟨1, one_pos, ?_, ?_, fun h => (h rfl).elim, fun _ => rfl⟩
    · simp [rS, rE, exp2_zero]
    · simp [rI, rE, exp2_zero]
  · have hp : 0 < a := lt_of_le_of_ne ha (Ne.symm h)
    set y : ℝ := a * (9586981 / 4294967296) with hy
    have hyp : 0 < y := by positivity
    have hl : (0 : ℝ) < Real.log 2 := Real.log_pos (by norm_num)
    set n : ℤ := ⌊Real.log y * (Real.log 2)⁻¹⌋ + 1 with hn
    have he : rE (a : EReal) = ((n : ℝ) : EReal) := by
      have h0 : ¬ ((a : EReal) = 0) := by exact_mod_cast h
      rw [rE, if_neg h0, ex, c448_eq, ← EReal.coe_mul, ← hy]
      have : Ideal.log (y : EReal) = ((Real.log y : ℝ) : EReal) := if_neg (not_le.2 hyp)
      rw [this, l2e, ← EReal.coe_mul, Ideal.liftRound_coe, hn]
      push_cast; rfl
    refine ⟨(2 : ℝ) ^ (n : ℝ), by positivity, ?_, ?_, fun _ => ?_, fun h' => (h h').elim⟩
    · rw [rS, he, exp2_int]
    · rw [rI, he, ← EReal.coe_zero, ← EReal.coe_sub, zero_sub, ← Int.cast_neg, exp2_int, Int.cast_neg, Real.rpow_neg (by norm_num)]
    · have h1 : Real.log y * (Real.log 2)⁻¹ < n := by rw [hn]; push_cast; exact Int.lt_floor_add_one _
      have h2 : y < (2 : ℝ) ^ (n : ℝ) := by
        rw [← Real.log_lt_log_iff hyp (by positivity), Real.log_rpow (by norm_num)]
        rw [← div_eq_mul_inv, div_lt_iff₀ hl] at h1; exact h1
      rw [inv_mul_le_iff₀ (by positivity)]
      rw [hy] at h2
      nlinarith

theorem scale_top : rS ⊤ = ⊤ ∧ rI ⊤ = 0 := by
  have h : rE ⊤ = ⊤ := by
    have hl : (0 : EReal) < l2e := by rw [l2e]; exact_mod_cast inv_pos.2 (Real.log_pos (by norm_num : (1:ℝ) < 2))
    have hc : (0 : EReal) < c448 := by rw [c448_eq]; exact_mod_cast (by norm_num : (0:ℝ) < 9586981 / 4294967296)
    rw [rE, if_neg (by simp), ex, EReal.top_mul_of_pos hc]
    show Ideal.liftRound Int.floor (⊤ * l2e) + 1 = ⊤
    rw [EReal.top_mul_of_pos hl]; rfl
  refine ⟨by rw [rS, h]; rfl, by rw [rI, h]; rfl⟩

theorem cl_real (z : EReal) : ∃ r : ℝ, cl z = (r : EReal) := by
  rw [cl, hi_eq, lo_eq]
  have h1 : (min ((448:ℝ):EReal) (max ((-448:ℝ):EReal) z)) ≠ ⊤ := ne_top_of_le_ne_top (EReal.coe_ne_top _) (min_le_left _ _)
  have h2 : (min ((448:ℝ):EReal) (max ((-448:ℝ):EReal) z)) ≠ ⊥ :=
    ne_bot_of_le_ne_bot (EReal.coe_ne_bot (-448)) (le_min (by exact_mod_cast (by norm_num : (-448:ℝ) ≤ 448)) (le_max_left _ _))
  exact ⟨_, (EReal.coe_toReal h1 h2).symm⟩
theorem cl_zero : cl 0 = 0 := by
  rw [cl, hi_eq, lo_eq]
  rw [max_eq_right (by exact_mod_cast (by norm_num : (-448:ℝ) ≤ 0)), min_eq_right (by exact_mod_cast (by norm_num : (0:ℝ) ≤ 448))]
theorem clp_clp (z : EReal) : clp (clp z) = clp z := by
  have h : (0 : EReal) ≤ hi := by rw [hi_eq]; exact_mod_cast (by norm_num : (0:ℝ) ≤ 448)
  unfold clp
  rw [max_eq_right (a := (0:EReal)) (b := min hi (max 0 z)) (le_min h (le_max_left _ _)), min_eq_right (min_le_left _ _)]
theorem cap_of_le (r : ℝ) (h : |r| ≤ 2 ^ 100) : cap (r : EReal) = r := by
  have := abs_le.1 h
  rw [cap, capHi_eq, capLo_eq, max_eq_right (by exact_mod_cast this.1), min_eq_right (by exact_mod_cast this.2)]

/-! ### The head -/

section Head
variable (X K V : Fin 640 → Fin 96 → EReal)

/-- Row `r` of row group `g`; key `t` of key group `n`. -/
def row (g : Fin 5) (r : Fin 128) : Fin 640 := ⟨128 * g.val + r.val, by omega⟩
def key (n : Fin 10) (t : Fin 64) : Fin 640 := ⟨64 * n.val + t.val, by omega⟩
def grp (s : Fin 640) : Fin 5 := ⟨s.val / 128, by omega⟩
def kgrp (s : Fin 640) : Fin 10 := ⟨s.val / 64, by omega⟩

def MQ (g : Fin 5) (d : Fin 96) : EReal := Ideal.div (∑ r : Fin 128, X (row g r) d) c128
def QD (s : Fin 640) (d : Fin 96) : EReal := X s d - MQ X (grp s) d
def QA (g : Fin 5) : EReal := ⨆ r : Fin 128, ⨆ d : Fin 96, ab (QD X (row g r) d)
def QC (s : Fin 640) (d : Fin 96) : EReal := cl (QD X s d * rI (QA X (grp s)))
def KM (d : Fin 96) : EReal := Ideal.div (∑ s, K s d) c640
def KD (s : Fin 640) (d : Fin 96) : EReal := K s d - KM K d
def KA (n : Fin 10) : EReal := ⨆ t : Fin 64, ⨆ d : Fin 96, ab (KD K (key n t) d)
def KC (s : Fin 640) (d : Fin 96) : EReal := cl (KD K s d * rI (KA K (kgrp s)))
def VA (d : Fin 96) : EReal := ⨆ s : Fin 640, ab (V s d)
def VC (s : Fin 640) (d : Fin 96) : EReal := cl (V s d * rI (VA V d))

/-- The reference's score of key `t` for row `s`. -/
def refS (s t : Fin 640) : EReal :=
  rS (KA K (kgrp t)) * (rS (QA X (grp s)) * ∑ d, KC K t d * QC X s d + ∑ d, KC K t d * MQ X (grp s) d) * scale
def refM (s t : Fin 640) : EReal := if t ≤ s then refS X K s t else ⊥
def refP (s t : Fin 640) : EReal := Ideal.exp (refM X K s t - ⨆ t', refM X K s t')
def refO (s : Fin 640) (d : Fin 96) : EReal :=
  Ideal.div ((∑ t, clp (refP X K s t * c256) * VC V t d) * i256 * rS (VA V d)) (∑ t, refP X K s t)

/-- The kernel's. -/
def kerS (s t : Fin 640) : EReal :=
  (∑ d, KC K t d * QC X s d + ∑ d, KC K t d * cap (MQ X (grp s) d * rI (QA X (grp s)))) * (rS (QA X (grp s)) * rS (KA K (kgrp t)) * soft)
def kerM (s t : Fin 640) : EReal := if t ≤ s then kerS X K s t else ⊥
def kerP (s t : Fin 640) : EReal := Ideal.exp2 (kerM X K s t - ((⨆ t', kerM X K s t') - c8))
/-- The keys a row group looks at. -/
def upTo (g : Fin 5) (t : Fin (128 * (g.val + 1))) : Fin 640 := ⟨t.val, by omega⟩
def kerO (s : Fin 640) (d : Fin 96) : EReal :=
  (∑ t, VC V (upTo (grp s) t) d * clp (clp (kerP X K s (upTo (grp s) t)))) * rS (VA V d) * Ideal.div 1 (∑ t, kerP X K s (upTo (grp s) t))

/-- What is asked of the queries: they are real, and the mean of a row group is not out of all proportion to the
    spread of the group about it. -/
def Tame : Prop := (∀ s d, ∃ r : ℝ, X s d = r) ∧
  ∀ g d, ab (MQ X g d) ≤ if QA X g = 0 then ((2 ^ 100 : ℝ) : EReal) else QA X g * ((2 ^ 91 : ℝ) : EReal)

theorem iSup_real {ι : Type} [Finite ι] [Nonempty ι] (f : ι → EReal) (h : ∀ i, ∃ r : ℝ, f i = r) : ∃ r : ℝ, ⨆ i, f i = r := by
  obtain ⟨i, hi⟩ := exists_eq_ciSup_of_finite (f := f)
  obtain ⟨r, hr⟩ := h i
  exact ⟨r, by rw [← hi, hr]⟩

theorem sum_coe {ι : Type} [Fintype ι] (f : ι → ℝ) : ∑ i, ((f i : ℝ) : EReal) = ((∑ i, f i : ℝ) : EReal) := by
  classical
  induction (Finset.univ : Finset ι) using Finset.induction_on with
  | empty => simp
  | insert a s ha ih => rw [Finset.sum_insert ha, Finset.sum_insert ha, ih, EReal.coe_add]

theorem ab_coe (r : ℝ) : ab (r : EReal) = ((|r| : ℝ) : EReal) := by
  rw [ab, ← EReal.coe_neg, abs_eq_max_neg]; exact (EReal.coe_strictMono.monotone.map_max).symm

theorem QA_nonneg (g : Fin 5) : 0 ≤ QA X g :=
  (ab_nonneg _).trans ((le_iSup (fun d => ab (QD X (row g 0) d)) 0).trans (le_iSup (fun r => ⨆ d, ab (QD X (row g r) d)) 0))
theorem KA_nonneg (n : Fin 10) : 0 ≤ KA K n :=
  (ab_nonneg _).trans ((le_iSup (fun d => ab (KD K (key n 0) d)) 0).trans (le_iSup (fun r => ⨆ d, ab (KD K (key n r) d)) 0))

/-- The scores are real in both forms and stand in the ratio the two exponentials ask for. -/
theorem scores (hX : Tame X) (s t : Fin 640) : ∃ f : ℝ, refS X K s t = f ∧ kerS X K s t = ((f * (Real.log 2)⁻¹ : ℝ) : EReal) := by
  obtain ⟨hr, hb⟩ := hX
  choose x hx using hr
  set g := grp s with hg
  have hMQ : ∀ d, ∃ r : ℝ, MQ X g d = r := fun d => by
    refine ⟨(∑ r, x (row g r) d) * (1 / 128), ?_⟩
    simp only [MQ, hx, sum_coe, c128_eq]
    rw [Ideal.div_coe (by norm_num), EReal.coe_mul]
  choose mq hmq using hMQ
  have hgr : ∀ r, grp (row g r) = g := fun r => Fin.ext (show (128 * g.val + r.val) / 128 = g.val by omega)
  have hQA : ∃ a : ℝ, QA X g = a := iSup_real _ fun r => iSup_real _ fun d =>
    ⟨|x (row g r) d - mq d|, by rw [QD, hgr, hmq, hx, ← EReal.coe_sub, ab_coe]⟩
  obtain ⟨a, ha⟩ := hQA
  have ha0 : 0 ≤ a := by have := QA_nonneg X g; rw [ha] at this; exact_mod_cast this
  obtain ⟨w, hw, hS, hI, hbnd, hone⟩ := scale_real a ha0
  have hcap : ∀ d, cap (MQ X g d * rI (QA X g)) = ((mq d * w⁻¹ : ℝ) : EReal) := fun d => by
    rw [hmq, ha, hI, ← EReal.coe_mul]
    refine cap_of_le _ ?_
    have := hb g d
    rw [hmq, ab_coe, ha] at this
    rw [abs_mul, abs_of_pos (inv_pos.2 hw)]
    by_cases h0 : a = 0
    · rw [if_pos (by exact_mod_cast h0)] at this
      rw [hone h0, inv_one, mul_one]; exact_mod_cast this
    · rw [if_neg (by exact_mod_cast h0), ← EReal.coe_mul] at this
      have h1 : |mq d| ≤ a * 2 ^ 91 := by exact_mod_cast this
      calc |mq d| * w⁻¹ ≤ (a * 2 ^ 91) * w⁻¹ := mul_le_mul_of_nonneg_right h1 (inv_pos.2 hw).le
        _ = (w⁻¹ * a) * 2 ^ 91 := by ring
        _ ≤ 512 * 2 ^ 91 := mul_le_mul_of_nonneg_right (hbnd h0) (by positivity)
        _ = 2 ^ 100 := by norm_num
  have hkc : ∀ d, ∃ r : ℝ, KC K t d = r := fun d => cl_real _
  have hqc : ∀ d, ∃ r : ℝ, QC X s d = r := fun d => cl_real _
  choose kc hkc using hkc
  choose qc hqc using hqc
  rw [refS, kerS]
  simp only [← hg, hcap]
  rw [ha, hS]
  rcases eq_or_ne (KA K (kgrp t)) ⊤ with htop | htop
  · have hz : ∀ d, KC K t d = 0 := fun d => by rw [KC, htop, scale_top.2, mul_zero, cl_zero]
    exact ⟨0, by simp [hz], by simp [hz]⟩
  · have hbot : KA K (kgrp t) ≠ ⊥ := ne_bot_of_le_ne_bot (by simp) (KA_nonneg K (kgrp t))
    obtain ⟨b, hb⟩ : ∃ b : ℝ, KA K (kgrp t) = b := ⟨_, (EReal.coe_toReal htop hbot).symm⟩
    have hb0 : 0 ≤ b := by have := KA_nonneg K (kgrp t); rw [hb] at this; exact_mod_cast this
    obtain ⟨v, hv, hSv, -, -, -⟩ := scale_real b hb0
    rw [hb, hSv]
    simp only [hkc, hqc, hmq, scale_eq, soft, ← EReal.coe_mul, ← EReal.coe_add, sum_coe]
    refine ⟨_, rfl, congrArg _ ?_⟩
    have : ∑ d, kc d * (mq d * w⁻¹) = (∑ d, kc d * mq d) * w⁻¹ := by
      rw [Finset.sum_mul]; exact Finset.sum_congr rfl fun d _ => by ring
    rw [this]
    field_simp

theorem div_one_coe {y : ℝ} (h : y ≠ 0) : Ideal.div 1 (y : EReal) = ((y⁻¹ : ℝ) : EReal) := by
  rw [Ideal.div_coe h, one_mul, one_div]

/-- The keys past a row's group weigh nothing. -/
theorem sum_upTo (s : Fin 640) (f : Fin 640 → EReal) (h : ∀ t, ¬ t ≤ s → f t = 0) :
    ∑ t, f (upTo (grp s) t) = ∑ t, f t := by
  refine Finset.sum_bij_ne_zero (fun t _ _ => upTo (grp s) t) (fun _ _ _ => Finset.mem_univ _) ?_ ?_ (fun _ _ _ => rfl)
  · intro a _ _ b _ _ e
    have := congrArg Fin.val e
    exact Fin.ext this
  · intro t _ ht
    have hts : t ≤ s := by by_contra hc; exact ht (h t hc)
    have : t.val ≤ s.val := hts
    exact ⟨⟨t.val, by show t.val < 128 * (s.val / 128 + 1); omega⟩, Finset.mem_univ _, ht, rfl⟩

theorem kerO_eq_refO (hX : Tame X) (s : Fin 640) (d : Fin 96) : kerO X K V s d = refO X K V s d := by
  choose f hf hk using scores X K hX s
  have hl : (0 : ℝ) < Real.log 2 := Real.log_pos (by norm_num)
  obtain ⟨t0, ht0, hmax⟩ := Finset.exists_max_image (Finset.univ.filter fun t : Fin 640 => t ≤ s) f ⟨s, by simp⟩
  have ht0' : t0 ≤ s := by simpa using ht0
  have hM : ⨆ t, refM X K s t = (f t0 : EReal) := by
    refine le_antisymm (iSup_le fun t => ?_) (le_trans (le_of_eq ?_) (le_iSup (refM X K s) t0))
    · rw [refM]; split_ifs with h
      · rw [hf]; exact_mod_cast hmax t (by simpa using h)
      · exact bot_le
    · rw [refM, if_pos ht0', hf]
  have hkM : ⨆ t, kerM X K s t = ((f t0 * (Real.log 2)⁻¹ : ℝ) : EReal) := by
    refine le_antisymm (iSup_le fun t => ?_) (le_trans (le_of_eq ?_) (le_iSup (kerM X K s) t0))
    · rw [kerM]; split_ifs with h
      · rw [hk]; exact_mod_cast mul_le_mul_of_nonneg_right (hmax t (by simpa using h)) (inv_pos.2 hl).le
      · exact bot_le
    · rw [kerM, if_pos ht0', hk]
  set q : Fin 640 → ℝ := fun t => if t ≤ s then Real.exp (f t - f t0) else 0 with hq
  have hP : ∀ t, refP X K s t = (q t : EReal) := fun t => by
    rw [refP, hM, refM, hq]; dsimp only; split_ifs with h
    · rw [hf, ← EReal.coe_sub]; rfl
    · rw [EReal.bot_sub]; rfl
  have hkP : ∀ t, kerP X K s t = ((q t * 256 : ℝ) : EReal) := fun t => by
    rw [kerP, hkM, kerM, hq, c8_eq]; dsimp only; split_ifs with h
    · rw [hk, ← EReal.coe_sub, ← EReal.coe_sub, Ideal.exp2_coe]
      refine congrArg _ ?_
      change (2 : ℝ) ^ (f t * (Real.log 2)⁻¹ - (f t0 * (Real.log 2)⁻¹ - 8)) = Real.exp (f t - f t0) * 256
      rw [Real.rpow_def_of_pos (by norm_num), show (256 : ℝ) = Real.exp (Real.log 2 * 8) by
        rw [← Real.rpow_def_of_pos (by norm_num)]; norm_num, ← Real.exp_add]
      refine congrArg _ ?_
      field_simp; ring
    · rw [← EReal.coe_sub, EReal.bot_sub, zero_mul]; rfl
  have hq0 : ∀ t, 0 ≤ q t := fun t => by rw [hq]; dsimp only; split_ifs <;> positivity
  have hL : 0 < ∑ t, q t := by
    refine lt_of_lt_of_le ?_ (Finset.single_le_sum (fun t _ => hq0 t) (Finset.mem_univ t0))
    rw [hq]; dsimp only; rw [if_pos ht0']; positivity
  have hkL : ∑ t, kerP X K s (upTo (grp s) t) = (((∑ t, q t) * 256 : ℝ) : EReal) := by
    rw [sum_upTo s (kerP X K s) (fun t h => by rw [hkP, hq]; simp [h])]
    simp only [hkP, sum_coe, Finset.sum_mul]
  have hkO : ∑ t, VC V (upTo (grp s) t) d * clp (clp (kerP X K s (upTo (grp s) t))) = ∑ t, clp (refP X K s t * c256) * VC V t d := by
    rw [sum_upTo s (fun t => VC V t d * clp (clp (kerP X K s t)))]
    · refine Finset.sum_congr rfl fun t _ => ?_
      rw [clp_clp, mul_comm, hP, hkP, c256_eq, EReal.coe_mul]
    · intro t h
      have h0 : kerP X K s t = 0 := by rw [hkP, hq]; simp [h]
      have : clp 0 = 0 := by
        rw [clp, max_self, min_eq_right]; rw [hi_eq]; exact_mod_cast (by norm_num : (0:ℝ) ≤ 448)
      rw [h0, this, this, mul_zero]
  rw [kerO, refO, hkO, hkL]
  simp only [hP, sum_coe]
  rw [div_one_coe (by positivity), Ideal.div_coe hL.ne', i256_eq, mul_assoc, mul_assoc, mul_assoc,
    mul_comm (rS _) (((∑ t, q t) * 256)⁻¹ : ℝ)]
  conv_rhs => rw [mul_comm (rS _), ← mul_assoc (((1 / 256 : ℝ)) : EReal), ← EReal.coe_mul]
  congr 3
  field_simp

end Head

end Cert.Spec
-- ==== Proof.Keys.lean ====
module

public import proofs.«01_k».proof.Proof.Body
public import proofs.«01_k».proof.Proof.Spec
public import Idealize.ShloMosaic.Lib.WordCmp

@[expose] public section

/-! The kernel's keys, values and queries read at an index. -/

set_option maxRecDepth 16384

noncomputable section

namespace Cert.KernelIdeal.Body

open Cert.KernelIdeal Cert.KernelIdeal.Gen Idealize.ShloMosaic Idealize.ShloMosaic.TcCoe Idealize.ShloMosaic.Pointwise Idealize.SL.Sem
open Cert.Spec

/-! ### Scalars -/

theorem fold_max {ι : Type} [Fintype ι] (f : ι → EReal) :
    Finset.univ.fold max (Ideal.ofBits .f32 0xFF800000#32) f = ⨆ k, f k := by
  rw [bot_eq]
  refine eq_of_forall_ge_iff fun c => ?_
  rw [Finset.fold_max_le, iSup_le_iff]
  exact ⟨fun h k => h.2 k (Finset.mem_univ k), fun h => ⟨bot_le, fun k _ => h k⟩⟩

theorem absf_eq (x : EReal) : (FloatOps.absf (F := Ideal) (φ := .f32) x : EReal) = ab x := rfl

theorem named_l2e : (Named.named κ "log2e" 0x3FB8AA3B#32 : Ideal .f32) = l2e := rfl
theorem named_soft : (Named.named κ "soft" 0x3E16C740#32 : Ideal .f32) = soft := rfl

theorem scV_apply {s : Shape} (a : FVec Ideal s .f32) (j : s.Idx) : scV a j = rS (a j) := by
  rw [← kS_eq]
  pointwise [scV, zV, eV, yV]
  rfl
theorem ivV_apply {s : Shape} (a : FVec Ideal s .f32) (j : s.Idx) : ivV a j = rI (a j) := by
  rw [← kI_eq]
  pointwise [ivV, zV, eV, yV]
  rfl
theorem clV_apply {s : Shape} (a : FVec Ideal s .f32) (j : s.Idx) : clV a j = cl (a j) := rfl
theorem capV_apply {s : Shape} (a : FVec Ideal s .f32) (j : s.Idx) : capV a j = cap (a j) := rfl

theorem sel_slt {α : Type} (x y : ℕ) (hx : x < 2 ^ 31) (hy : y < 2 ^ 31) (a b : α) :
    Scalar.select (IntOp.cmpi .slt (BitVec.ofNat 32 x) (BitVec.ofNat 32 y)) a b = if x < y then a else b := by
  simp (disch := word_cmp_side) only [hlo_ix]
theorem sel_sle {α : Type} (x y : ℕ) (hx : x < 2 ^ 31) (hy : y < 2 ^ 31) (a b : α) :
    Scalar.select (IntOp.cmpi .sle (BitVec.ofNat 32 x) (BitVec.ofNat 32 y)) a b = if x ≤ y then a else b := by
  simp (disch := word_cmp_side) only [hlo_ix]
theorem sel_eq {α : Type} (x y : ℕ) (hx : x < 2 ^ 31) (hy : y < 2 ^ 31) (a b : α) :
    Scalar.select (IntOp.cmpi .eq (BitVec.ofNat 32 x) (BitVec.ofNat 32 y)) a b = if x = y then a else b := by
  simp (disch := word_cmp_side) only [hlo_ix]
theorem addi_ofNat (x y : ℕ) : IntOp.addi (BitVec.ofNat 32 x) (BitVec.ofNat 32 y) = BitVec.ofNat 32 (x + y) :=
  (BitVec.ofNat_add x y).symm

variable (i : grid0.Coords) (XA : Vec Ideal S1x640x768 .bf16) (XW : Fin 4 → Vec Ideal S1x640x256 .bf16) (KW VW : Vec Ideal S1x640x256 .bf16)

/-! ### Keys and values -/

section Keys
variable (K V : Fin 640 → Fin 96 → EReal) (hK : ∀ d s, rawK i KW (ix2 d s) = K s d) (hV : ∀ d s, rawK i VW (ix2 d s) = V s d)
include hK
theorem kdV_apply (d : Fin 96) (s : Fin 640) : kdV i KW (ix2 d s) = KD K s d := by
  pointwise [kdV, mkV]
  simp only [hK]; rfl

theorem kcm_apply (j : Fin 5) (l : Fin 128) : kcm i KW j (ix2 0 l) = ⨆ d, ab (KD K ⟨128 * j.val + l.val, by omega⟩ d) := by
  pointwise [kcm, kblk]
  simp only [kdV_apply i KW K hK, absf_eq]
  exact fold_max _

theorem kmx0_apply (j : Fin 5) : kmx0 i KW j (ix2 0 0) = KA K ⟨2 * j.val, by omega⟩ := by
  pointwise [kmx0, loV]
  simp only [kcm_apply i KW K hK]
  refine (fold_max _).trans (le_antisymm (iSup_le fun l => ?_) (iSup_le fun t => ?_))
  · rw [sel_slt _ _ (by omega) (by norm_num)]
    split_ifs with h
    · refine le_trans (le_of_eq ?_) (le_iSup (fun t => ⨆ d, ab (KD K (key ⟨2 * j.val, by omega⟩ t) d)) ⟨l.val, h⟩)
      refine iSup_congr fun d => congrArg (fun s => ab (KD K s d)) (Fin.ext ?_)
      show 128 * j.val + l.val = 64 * (2 * j.val) + l.val; omega
    · exact KA_nonneg K _
  · refine le_trans (le_of_eq ?_) (le_iSup _ (⟨t.val, by omega⟩ : Fin 128))
    rw [sel_slt _ _ (by simp only []; omega) (by norm_num), if_pos (by simp only []; omega)]
    refine iSup_congr fun d => congrArg (fun s => ab (KD K s d)) (Fin.ext ?_)
    show 64 * (2 * j.val) + t.val = 128 * j.val + t.val; omega

theorem kmx1_apply (j : Fin 5) : kmx1 i KW j (ix2 0 0) = KA K ⟨2 * j.val + 1, by omega⟩ := by
  pointwise [kmx1, loV]
  simp only [kcm_apply i KW K hK]
  refine (fold_max _).trans (le_antisymm (iSup_le fun l => ?_) (iSup_le fun t => ?_))
  · rw [sel_slt _ _ (by omega) (by norm_num)]
    split_ifs with h
    · exact KA_nonneg K _
    · refine le_trans (le_of_eq ?_) (le_iSup (fun t => ⨆ d, ab (KD K (key ⟨2 * j.val + 1, by omega⟩ t) d)) ⟨l.val - 64, by omega⟩)
      refine iSup_congr fun d => congrArg (fun s => ab (KD K s d)) (Fin.ext ?_)
      show 128 * j.val + l.val = 64 * (2 * j.val + 1) + (l.val - 64); omega
  · refine le_trans (le_of_eq ?_) (le_iSup _ (⟨64 + t.val, by omega⟩ : Fin 128))
    rw [sel_slt _ _ (by simp only []; omega) (by norm_num), if_neg (by simp only []; omega)]
    refine iSup_congr fun d => congrArg (fun s => ab (KD K s d)) (Fin.ext ?_)
    show 64 * (2 * j.val + 1) + t.val = 128 * j.val + (64 + t.val); omega

theorem skV_apply : ∀ n : Fin 10, skV i KW n (ix2 0 0) = rS (KA K n)
  | 0 => (scV_apply (kmx0 i KW 0) _).trans (congrArg rS (kmx0_apply i KW K hK 0))
  | 1 => (scV_apply (kmx1 i KW 0) _).trans (congrArg rS (kmx1_apply i KW K hK 0))
  | 2 => (scV_apply (kmx0 i KW 1) _).trans (congrArg rS (kmx0_apply i KW K hK 1))
  | 3 => (scV_apply (kmx1 i KW 1) _).trans (congrArg rS (kmx1_apply i KW K hK 1))
  | 4 => (scV_apply (kmx0 i KW 2) _).trans (congrArg rS (kmx0_apply i KW K hK 2))
  | 5 => (scV_apply (kmx1 i KW 2) _).trans (congrArg rS (kmx1_apply i KW K hK 2))
  | 6 => (scV_apply (kmx0 i KW 3) _).trans (congrArg rS (kmx0_apply i KW K hK 3))
  | 7 => (scV_apply (kmx1 i KW 3) _).trans (congrArg rS (kmx1_apply i KW K hK 3))
  | 8 => (scV_apply (kmx0 i KW 4) _).trans (congrArg rS (kmx0_apply i KW K hK 4))
  | 9 => (scV_apply (kmx1 i KW 4) _).trans (congrArg rS (kmx1_apply i KW K hK 4))

theorem kcode_apply (j : Fin 5) (d : Fin 96) (l : Fin 128) : kcode i KW j (ix2 d l) = KC K ⟨128 * j.val + l.val, by omega⟩ d := by
  rw [kcode, clV_apply, KC]
  refine congrArg cl ?_
  pointwise [kblk, loV]
  rw [kdV_apply i KW K hK, ivV_apply, ivV_apply, kmx0_apply i KW K hK, kmx1_apply i KW K hK, sel_slt _ _ (by omega) (by norm_num)]
  refine congrArg _ ?_
  split_ifs with h
  · refine congrArg (fun n => rI (KA K n)) (Fin.ext ?_)
    show 2 * j.val = (128 * j.val + l.val) / 64; omega
  · refine congrArg (fun n => rI (KA K n)) (Fin.ext ?_)
    show 2 * j.val + 1 = (128 * j.val + l.val) / 64; omega

theorem kcV_apply (d : Fin 96) (s : Fin 640) : kcV i KW (ix2 d s) = KC K s d := by
  pointwise [kcV]
  simp only [kcode_apply i KW K hK]
  split_ifs
  all_goals
    refine congrArg (fun s => KC K s d) (Fin.ext ?_)
    simp only [Fin.val_zero, Fin.val_one, Fin.val_two, show ((3 : Fin 5) : ℕ) = 3 from rfl, show ((4 : Fin 5) : ℕ) = 4 from rfl]
    omega

theorem kbV_apply (s : Fin 640) (d : Fin 96) : kbV i KW (ix2 s d) = KC K s d := by
  pointwise [kbV]
  exact kcV_apply i KW K hK d s
theorem k8V_apply (s : Fin 640) (d : Fin 96) : k8V i KW (ix2 s d) = KC K s d := kbV_apply i KW K hK s d

omit hK
include hV
theorem vaV_apply (d : Fin 96) : vaV i VW (ix2 d 0) = VA V d := by
  pointwise [vaV]
  simp only [hV, absf_eq]
  exact fold_max _
theorem vcV_apply (d : Fin 96) (s : Fin 640) : vcV i VW (ix2 d s) = VC V s d := by
  rw [vcV, clV_apply, VC]
  refine congrArg cl ?_
  pointwise []
  rw [hV, ivV_apply, vaV_apply i VW V hV]
end Keys

/-! ### Queries -/

/-- Head `2 p + u`. -/
theorem lt_pair (u : Fin 2) (d : Fin 96) : 96 * u.val + d.val < 192 := by omega
theorem lt_cols (h : Fin 8) (d : Fin 96) : 96 * h.val + d.val < 768 := by omega
theorem lt_eight (g : Fin 5) : g.val < 8 := by omega
def head (p : Fin 4) (u : Fin 2) : Fin 8 := ⟨2 * p.val + u.val, by omega⟩

section Queries
variable (X : Fin 8 → Fin 640 → Fin 96 → EReal)
  (hX : ∀ p u (d : Fin 96) s, rawX XW p (ix2 ⟨96 * u.val + d.val, lt_pair u d⟩ s) = X (head p u) s d)
  (hM : ∀ (h : Fin 8) (d : Fin 96) (g : Fin 5), mqV XA (ix2 ⟨96 * h.val + d.val, lt_cols h d⟩ ⟨g.val, lt_eight g⟩) = MQ (X h) g d)
include hM
theorem mcV_apply (p : Fin 4) (u : Fin 2) (g : Fin 5) (d : Fin 96) : mcV XA p u g (ix2 d 0) = MQ (X (head p u)) g d := by
  pointwise [mcV]
  exact hM (head p u) d g
include hX
theorem qdV_apply (p : Fin 4) (u : Fin 2) (g : Fin 5) (d : Fin 96) (r : Fin 128) : qdV XA XW p u g (ix2 d r) = QD (X (head p u)) (row g r) d := by
  pointwise [qdV]
  rw [mcV_apply XA X hM, QD, show grp (row g r) = g from Fin.ext (show (128 * g.val + r.val) / 128 = g.val by omega)]
  exact congrArg (· - _) (hX p u d (row g r))
theorem qaV_apply (p : Fin 4) (u : Fin 2) (g : Fin 5) : qaV XA XW p u g (ix2 0 0) = QA (X (head p u)) g := by
  pointwise [qaV]
  simp only [qdV_apply XA XW X hX hM, absf_eq]
  refine (fold_max _).trans ?_
  rw [iSup_prod, iSup_comm]; rfl
theorem qcode_apply (p : Fin 4) (u : Fin 2) (g : Fin 5) (d : Fin 96) (r : Fin 128) :
    qcode XA XW p u g (ix2 d r) = QC (X (head p u)) (row g r) d := by
  rw [qcode, clV_apply, QC]
  refine congrArg cl ?_
  pointwise []
  rw [qdV_apply XA XW X hX hM, ivV_apply, qaV_apply XA XW X hX hM, show grp (row g r) = g from Fin.ext (show (128 * g.val + r.val) / 128 = g.val by omega)]
theorem mrepH_apply (p : Fin 4) (u : Fin 2) (g : Fin 5) (d : Fin 96) (r : Fin 128) :
    mrepH XA XW p u g (ix2 d r) = cap (MQ (X (head p u)) g d * rI (QA (X (head p u)) g)) := by
  pointwise [mrepH, capV]
  rw [mcV_apply XA X hM, ivV_apply, qaV_apply XA XW X hX hM]
  rfl
theorem qcode2_apply (p : Fin 4) (u : Fin 2) (g : Fin 5) (d : Fin 96) (r : Fin 128) :
    qcode2 XA XW p g (ix2 d ⟨128 * u.val + r.val, by omega⟩) = QC (X (head p u)) (row g r) d := by
  fin_cases u
  · pointwise [qcode2]
    exact (congrArg (fun r => qcode XA XW p 0 g (ix2 d r)) (Fin.ext (by simp))).trans (qcode_apply XA XW X hX hM p 0 g d r)
  · pointwise [qcode2]
    exact (congrArg (fun r => qcode XA XW p 1 g (ix2 d r)) (Fin.ext (by simp))).trans (qcode_apply XA XW X hX hM p 1 g d r)
theorem mrep2_apply (p : Fin 4) (u : Fin 2) (g : Fin 5) (d : Fin 96) (r : Fin 128) :
    mrep2 XA XW p g (ix2 d ⟨128 * u.val + r.val, by omega⟩) = cap (MQ (X (head p u)) g d * rI (QA (X (head p u)) g)) := by
  fin_cases u
  · pointwise [mrep2]
    exact (congrArg (fun r => mrepH XA XW p 0 g (ix2 d r)) (Fin.ext (by simp))).trans (mrepH_apply XA XW X hX hM p 0 g d r)
  · pointwise [mrep2]
    exact (congrArg (fun r => mrepH XA XW p 1 g (ix2 d r)) (Fin.ext (by simp))).trans (mrepH_apply XA XW X hX hM p 1 g d r)
end Queries

end Cert.KernelIdeal.Body
-- ==== Proof.Scores.lean ====
module

public import proofs.«01_k».proof.Proof.Keys
public import Idealize.ShloMosaic.Lib.MatmulPlain

@[expose] public section

/-! The kernel's scores, probabilities and result read at an index: the result is `Spec.kerO` of the head. -/

set_option maxRecDepth 16384

noncomputable section

namespace Cert.KernelIdeal.Body

open Cert.KernelIdeal Cert.KernelIdeal.Gen Idealize.ShloMosaic Idealize.ShloMosaic.TcCoe Idealize.ShloMosaic.Pointwise Idealize.SL.Sem
open Cert.Spec

theorem slice2_apply {α : Type} {a b c d o p : ℕ} (h1 : o + c ≤ a) (h2 : p + d ≤ b) (X : (⟨2, ![a, b]⟩ : Shape).Idx → α) (x : Fin c) (y : Fin d) :
    extractStridedSlice ⟨2, ![c, d]⟩ ![o, p] X (slices2 h1 h2) (ix2 x y) = X (ix2 ⟨o + x.val, by omega⟩ ⟨p + y.val, by omega⟩) := by
  refine congrArg X (funext fun k => ?_)
  fin_cases k <;> rfl

theorem rowsTo_apply {φ : FTy} (X : FVec Ideal S640x96 φ) (g : Fin 5) (t : Fin (128 * (g.val + 1))) (d : Fin 96) :
    rowsTo X g (ix2 t d) = X (ix2 (upTo g t) d) := by
  fin_cases g <;> pointwise [rowsTo] <;> rfl
theorem colsTo_apply {φ : FTy} (X : FVec Ideal S96x640 φ) (g : Fin 5) (t : Fin (128 * (g.val + 1))) (d : Fin 96) :
    colsTo X g (ix2 d t) = X (ix2 d (upTo g t)) := by
  fin_cases g <;> pointwise [colsTo] <;> rfl

theorem two (u : Fin 2) : u = 0 ∨ u = 1 := by fin_cases u <;> simp

theorem concat2_apply {α : Type} {n : ℕ} (P0 P1 : (⟨2, ![n, 128]⟩ : Shape).Idx → α) (t : Fin n) (u : Fin 2) (r : Fin 128) :
    concatenate ⟨2, ![n, 256]⟩ 1 [⟨⟨2, ![n, 128]⟩, P0⟩, ⟨⟨2, ![n, 128]⟩, P1⟩] (concat2 n) (ix2 t ⟨128 * u.val + r.val, by omega⟩)
      = (if u = 0 then P0 else P1) (ix2 t r) := by
  rcases two u with rfl | rfl <;> pointwise []
  · exact congrArg P0 (funext fun k => by fin_cases k <;> rfl)
  · exact congrArg P1 (funext fun k => by fin_cases k <;> rfl)

theorem pcV_apply {n : ℕ} (P : FVec Ideal ⟨2, ![n, 128]⟩ .f32) (t : Fin n) (r : Fin 128) : pcV P (ix2 t r) = clp (clp (P (ix2 t r))) := by
  pointwise [pcV, clpV]
  simp only [clp, hi]

theorem grp_row (g : Fin 5) (r : Fin 128) : grp (row g r) = g := Fin.ext (show (128 * g.val + r.val) / 128 = g.val by omega)

variable (i : grid0.Coords) (XA : Vec Ideal S1x640x768 .bf16) (XW : Fin 4 → Vec Ideal S1x640x256 .bf16) (KW VW : Vec Ideal S1x640x256 .bf16)
variable (K V : Fin 640 → Fin 96 → EReal) (hK : ∀ d s, rawK i KW (ix2 d s) = K s d) (hV : ∀ d s, rawK i VW (ix2 d s) = V s d)
variable (X : Fin 8 → Fin 640 → Fin 96 → EReal)
  (hX : ∀ p u (d : Fin 96) s, rawX XW p (ix2 ⟨96 * u.val + d.val, lt_pair u d⟩ s) = X (head p u) s d)
  (hM : ∀ (h : Fin 8) (d : Fin 96) (g : Fin 5), mqV XA (ix2 ⟨96 * h.val + d.val, lt_cols h d⟩ ⟨g.val, lt_eight g⟩) = MQ (X h) g d)

section
include hK hX hM
theorem sV_apply (g : Fin 5) (p : Fin 4) (u : Fin 2) (t : Fin (128 * (g.val + 1))) (r : Fin 128) :
    sV i XA XW KW g p (ix2 t ⟨128 * u.val + r.val, by omega⟩) = ∑ d, KC K (upTo g t) d * QC (X (head p u)) (row g r) d := by
  refine (Ideal.matmul_plain_apply none _ _ _ _ _).trans ?_
  rw [show (constant (⟨2, ![128 * (g.val + 1), 256]⟩ : Shape) .f32 0x00000000#32 : FVec Ideal _ .f32) _ = (0 : EReal) from Ideal.ofBits_zero_f32, zero_add]
  refine Finset.sum_congr rfl fun d _ => ?_
  exact congrArg₂ (fun a b : EReal => a * b) ((rowsTo_apply _ g t d).trans (k8V_apply i KW K hK _ d)) (qcode2_apply XA XW X hX hM p u g d r)
theorem cV_apply (g : Fin 5) (p : Fin 4) (u : Fin 2) (t : Fin (128 * (g.val + 1))) (r : Fin 128) :
    cV i XA XW KW g p (ix2 t ⟨128 * u.val + r.val, by omega⟩)
      = ∑ d, KC K (upTo g t) d * cap (MQ (X (head p u)) g d * rI (QA (X (head p u)) g)) := by
  refine (Ideal.matmul_plain_apply none _ _ _ _ _).trans ?_
  rw [show (constant (⟨2, ![128 * (g.val + 1), 256]⟩ : Shape) .f32 0x00000000#32 : FVec Ideal _ .f32) _ = (0 : EReal) from Ideal.ofBits_zero_f32, zero_add]
  refine Finset.sum_congr rfl fun d _ => ?_
  exact congrArg₂ (fun a b : EReal => a * b) ((rowsTo_apply _ g t d).trans (kbV_apply i KW K hK _ d)) (mrep2_apply XA XW X hX hM p u g d r)

theorem tfull_apply (g : Fin 5) (p : Fin 4) (u : Fin 2) (n : Fin (2 * (g.val + 1))) (t : Fin 64) (r : Fin 128) :
    tfull i XA XW KW g p u n (ix2 t r) = kerS (X (head p u)) K (row g r) ⟨64 * n.val + t.val, by omega⟩ := by
  rw [kerS, grp_row]
  have e1 := (slice2_apply (o := 64 * n.val) (p := 128 * u.val) (c := 64) (d := 128) (by omega) (by omega) (sV i XA XW KW g p) t r).trans
    (sV_apply i XA XW KW K hK X hX hM g p u ⟨64 * n.val + t.val, by omega⟩ r)
  have e2 := (slice2_apply (o := 64 * n.val) (p := 128 * u.val) (c := 64) (d := 128) (by omega) (by omega) (cV i XA XW KW g p) t r).trans
    (cV_apply i XA XW KW K hK X hX hM g p u ⟨64 * n.val + t.val, by omega⟩ r)
  refine (congrArg₂ (fun a b : EReal => a * b) (congrArg₂ (fun a b : EReal => a + b) e1 e2) ?_ : _)
  pointwise []
  rw [scV_apply, qaV_apply XA XW X hX hM, skV_apply i KW K hK, named_soft]
  refine congrArg (fun n => _ * rS (KA K n) * soft) (Fin.ext ?_)
  show n.val = (64 * n.val + t.val) / 64; omega

theorem tblk_apply (g : Fin 5) (p : Fin 4) (u : Fin 2) (n : Fin (2 * (g.val + 1))) (t : Fin 64) (r : Fin 128) :
    tblk i XA XW KW g p u n (ix2 t r) = kerM (X (head p u)) K (row g r) ⟨64 * n.val + t.val, by omega⟩ := by
  have hf := tfull_apply i XA XW KW K hK X hX hM g p u n t r
  have hle : ((⟨64 * n.val + t.val, by omega⟩ : Fin 640) ≤ row g r) ↔ 64 * n.val + t.val ≤ 128 * g.val + r.val := Iff.rfl
  rw [tblk, kerM]
  rcases hb : Nat.ble (2 * g.val) n.val with _ | _
  · have hn : ¬ 2 * g.val ≤ n.val := fun h => by rw [Nat.ble_eq_true_of_le h] at hb; exact absurd hb (by decide)
    rw [cond_false, hf, if_pos (hle.2 (by omega))]
  · have hn : 2 * g.val ≤ n.val := Nat.le_of_ble_eq_true hb
    rw [cond_true]
    pointwise [tmask]
    rw [hf, sel_sle _ _ (by omega) (by omega), bot_eq]
    refine if_congr (Iff.trans ?_ hle.symm) rfl rfl
    omega

theorem probs_apply (g : Fin 5) (p : Fin 4) (u : Fin 2) (t : Fin (128 * (g.val + 1))) (r : Fin 128) :
    probs i XA XW KW g p u (ix2 t r) = kerP (X (head p u)) K (row g r) (upTo g t) := by
  have ht := tblk_apply i XA XW KW K hK X hX hM g p u
  have hst : tstack (tblk i XA XW KW g p u) (128 * (g.val + 1)) (by omega) (ix2 t r) = kerM (X (head p u)) K (row g r) (upTo g t) := by
    refine (ht _ _ _).trans (congrArg _ (Fin.ext ?_))
    show 64 * (t.val / 64) + t.val % 64 = t.val; omega
  have hmx : ∀ (k : ℕ) (h : k < 2 * (g.val + 1)) (x : Fin 8) (c : EReal),
      tmx (tblk i XA XW KW g p u) k h (ix2 x r) ≤ c ↔ ∀ n (hn : n ≤ k) (q : Fin 8), kerM (X (head p u)) K (row g r) ⟨64 * n + (q.val * 8 + x.val), by omega⟩ ≤ c := by
    intro k
    have one : ∀ (n : ℕ) (hn : n < 2 * (g.val + 1)) (x : Fin 8) (c : EReal),
        (multiReduction .maximumf [0] S8x128 (shapeCast S8x8x128 (tblk i XA XW KW g p u ⟨n, hn⟩) shapeCasts_S64x128_S8x8x128 : FVec Ideal S8x8x128 .f32)
          0xFF800000#32 reduces_S8x8x128_S8x128 (.inl rfl) rfl : FVec Ideal S8x128 .f32) (ix2 x r) ≤ c
        ↔ ∀ q : Fin 8, kerM (X (head p u)) K (row g r) ⟨64 * n + (q.val * 8 + x.val), by omega⟩ ≤ c := by
      intro n hn x c
      pointwise []
      simp only [ht]
      rw [fold_max, iSup_le_iff]
    induction k with
    | zero =>
      intro h x c
      refine (one 0 h x c).trans ⟨fun H n hn q => ?_, fun H q => H 0 le_rfl q⟩
      obtain rfl : n = 0 := by omega
      exact H q
    | succ k ih =>
      intro h x c
      refine (max_le_iff.trans (and_congr (ih _ x c) (one (k + 1) h x c))).trans ⟨fun H n hn q => ?_, fun H => ⟨fun n hn q => H n (by omega) q, fun q => H _ le_rfl q⟩⟩
      rcases Nat.lt_or_ge n (k + 1) with h1 | h1
      · exact H.1 n (by omega) q
      · obtain rfl : n = k + 1 := by omega
        exact H.2 q
  rw [probs]
  pointwise [pV, mV]
  rw [hst, kerP, fold_max]
  refine congrArg (fun a : EReal => (Ideal.exp2 (kerM (X (head p u)) K (row g r) (upTo g t) - (a - c8)) : EReal)) (eq_of_forall_ge_iff fun c => ?_)
  simp only [iSup_le_iff, hmx]
  constructor
  · intro H T
    by_cases hT : T ≤ row g r
    · have hv : T.val ≤ 128 * g.val + r.val := hT
      refine le_trans (le_of_eq (congrArg _ (Fin.ext ?_))) (H ⟨T.val % 8, by omega⟩ (T.val / 64) (by omega) ⟨T.val % 64 / 8, by omega⟩)
      show T.val = 64 * (T.val / 64) + (T.val % 64 / 8 * 8 + T.val % 8); omega
    · rw [kerM, if_neg hT]; exact bot_le
  · intro H x n hn q; exact H _

include hV
theorem opair_apply (g : Fin 5) (p : Fin 4) (u : Fin 2) (d : Fin 96) (r : Fin 128) :
    opair i XA XW KW VW g p (ix2 d ⟨128 * u.val + r.val, by omega⟩) = kerO (X (head p u)) K V (row g r) d := by
  have hp := probs_apply i XA XW KW K hK X hX hM g p
  have hsel : ∀ t, (if u = 0 then pcV (probs i XA XW KW g p 0) else pcV (probs i XA XW KW g p 1)) (ix2 t r)
      = clp (clp (kerP (X (head p u)) K (row g r) (upTo g t))) := fun t => by
    rcases two u with rfl | rfl
    · rw [if_pos rfl]; exact (pcV_apply _ t r).trans (congrArg (fun a => clp (clp a)) (hp 0 t r))
    · rw [if_neg (by decide)]; exact (pcV_apply _ t r).trans (congrArg (fun a => clp (clp a)) (hp 1 t r))
  have hl : ∀ u, lV (probs i XA XW KW g p u) (ix2 0 r) = ∑ t, kerP (X (head p u)) K (row g r) (upTo g t) := fun u => by
    pointwise [lV]
    simp only [hp]
  have hll : concatenate S1x256 1 [⟨S1x128, lV (probs i XA XW KW g p 0)⟩, ⟨S1x128, lV (probs i XA XW KW g p 1)⟩] concatenates_S1x128_S1x128_S1x256_d1 (ix2 0 ⟨128 * u.val + r.val, by omega⟩)
      = ∑ t, kerP (X (head p u)) K (row g r) (upTo g t) := by
    refine (concat2_apply (n := 1) (lV (probs i XA XW KW g p 0)) (lV (probs i XA XW KW g p 1)) 0 u r).trans ?_
    rcases two u with rfl | rfl
    · exact hl 0
    · exact hl 1
  have hm : (matmul (DotDims.plain 96 (128 * (g.val + 1)) 256) none (colsTo (vcV i VW) g)
      (concatenate ⟨2, ![128 * (g.val + 1), 256]⟩ 1 [⟨⟨2, ![128 * (g.val + 1), 128]⟩, pcV (probs i XA XW KW g p 0)⟩, ⟨⟨2, ![128 * (g.val + 1), 128]⟩, pcV (probs i XA XW KW g p 1)⟩] (concat2 (128 * (g.val + 1))) : FVec Ideal ⟨2, ![128 * (g.val + 1), 256]⟩ .fp8e4m3)
      (constant S96x256 .f32 0x00000000#32) : FVec Ideal S96x256 .f32) (ix2 d ⟨128 * u.val + r.val, by omega⟩)
      = ∑ t, VC V (upTo g t) d * clp (clp (kerP (X (head p u)) K (row g r) (upTo g t))) := by
    refine (Ideal.matmul_plain_apply none _ _ _ _ _).trans ?_
    rw [show (constant S96x256 .f32 0x00000000#32 : FVec Ideal _ .f32) _ = (0 : EReal) from Ideal.ofBits_zero_f32, zero_add]
    refine Finset.sum_congr rfl fun t _ => ?_
    exact congrArg₂ (fun a b : EReal => a * b) ((colsTo_apply _ g t d).trans (vcV_apply i VW V hV d _)) ((concat2_apply _ _ t u r).trans (hsel t))
  rw [kerO, grp_row, opair, oV]
  refine (congrArg₂ (fun a b : EReal => a * b) (congrArg₂ (fun a b : EReal => a * b) hm ?_) ?_ : _)
  · pointwise []
    rw [scV_apply, vaV_apply i VW V hV]
  · refine Eq.trans ?_ (congrArg (Ideal.div 1) hll)
    pointwise []

theorem opiece_apply (g : Fin 5) (p : Fin 4) (u : Fin 2) (d : Fin 96) (r : Fin 128) :
    opiece i XA XW KW VW g (head p u) (ix2 d r) = kerO (X (head p u)) K V (row g r) d := by
  refine Eq.trans ?_ (opair_apply i XA XW KW VW K V hK hV X hX hM g p u d r)
  fin_cases p <;> fin_cases u
  all_goals
    simp only [opiece, head]
    pointwise []
    try exact congrArg (fun r => opair i XA XW KW VW g _ (ix2 d r)) (Fin.ext (by simp))

theorem OUT_apply (s : Fin 640) (h : Fin 8) (d : Fin 96) :
    OUT i XA XW KW VW (ix3 0 s ⟨96 * h.val + d.val, by omega⟩) = kerO (X h) K V s d := by
  pointwise [OUT, orow, ostack]
  obtain ⟨p, u, rfl⟩ : ∃ p u, h = head p u := ⟨⟨h.val / 2, by omega⟩, ⟨h.val % 2, by omega⟩, Fin.ext (by show h.val = 2 * (h.val / 2) + h.val % 2; omega)⟩
  obtain ⟨g, r, rfl⟩ : ∃ g r, s = row g r := ⟨⟨s.val / 128, by omega⟩, ⟨s.val % 128, by omega⟩, Fin.ext (by show s.val = 128 * (s.val / 128) + s.val % 128; omega)⟩
  refine Eq.trans ?_ (opiece_apply i XA XW KW VW K V hK hV X hX hM g p u d r)
  have e1 : (⟨(row g r).val / 128, by omega⟩ : Fin 5) = g := grp_row g r
  have e2 : (⟨(row g r).val % 128, by omega⟩ : Fin 128) = r := Fin.ext (by show (128 * g.val + r.val) % 128 = r.val; omega)
  have e3 : (⟨(96 * (head p u).val + d.val) / 96, by omega⟩ : Fin 8) = head p u := Fin.ext (by simp only []; omega)
  have e4 : (⟨(96 * (head p u).val + d.val) % 96, by omega⟩ : Fin 96) = d := Fin.ext (by simp only []; omega)
  rw [e1, e2, e3, e4]
end

end Cert.KernelIdeal.Body
-- ==== Proof.Blocks.lean ====
module

public import proofs.«01_k».proof.Proof.Scores
public import proofs.«01_k».proof.Proof.Reads

@[expose] public section

/-! The heads a grid point sees in the blocks it is given, and its result as `Spec.kerO` of them. -/

set_option maxRecDepth 16384

noncomputable section

namespace Cert.KernelIdeal.Body

open Cert.KernelIdeal Cert.KernelIdeal.Gen Idealize.ShloMosaic Idealize.ShloMosaic.TcCoe Idealize.ShloMosaic.Pointwise Idealize.SL.Sem
open Cert.Spec

/-- Head `h` of a block of queries. -/
def qHead (x : Vec Ideal S1x640x768 .bf16) (h : Fin 8) (s : Fin 640) (d : Fin 96) : EReal := x (ix3 0 s ⟨96 * h.val + d.val, by omega⟩)
/-- The key head a grid point reads. -/
def kHead (kv : Fin 8) (x : Vec Ideal S1x640x768 .bf16) (s : Fin 640) (d : Fin 96) : EReal := x (ix3 0 s ⟨96 * kv.val + d.val, by omega⟩)

theorem sum_pick {n : ℕ} (f : Fin n → EReal) (k : Fin n) : (∑ x : Fin n, if x.val = k.val then f x else 0) = f k := by
  rw [Finset.sum_eq_single k (fun b _ h => if_neg fun e => h (Fin.ext e)) (fun h => (h (Finset.mem_univ k)).elim), if_pos rfl]

variable (i : grid0.Coords) (x0 x1 x2 : Vec Ideal S1x640x768 .bf16)

/-- The lane the key head starts at, past the aligned lane the block starts at. -/
def laneOff (kv : Fin 8) : ℕ := 96 * kv.val - 128 * min (3 * kv.val / 4) 4

theorem laneOff_word : ∀ kv : Fin 8,
    (Scalar.subi (Scalar.muli 96#32 (BitVec.ofNat 32 kv.val)) (Scalar.muli 128#32 (Scalar.minsi (Scalar.select
      (Scalar.andi (Scalar.cmpi CmpIPredicate.ne
          (Scalar.subi (Scalar.extui (Scalar.cmpi CmpIPredicate.sgt (Scalar.muli 3#32 (BitVec.ofNat 32 kv.val)) 0#32))
            (Scalar.extui (Scalar.cmpi CmpIPredicate.slt (Scalar.muli 3#32 (BitVec.ofNat 32 kv.val)) 0#32)))
          (Scalar.subi (Scalar.extui (Scalar.cmpi CmpIPredicate.sgt 4#32 0#32)) (Scalar.extui (Scalar.cmpi CmpIPredicate.slt 4#32 0#32))))
        (Scalar.cmpi CmpIPredicate.ne (Scalar.remsi (Scalar.muli 3#32 (BitVec.ofNat 32 kv.val)) 4#32) 0#32))
      (Scalar.subi (Scalar.divsi (Scalar.muli 3#32 (BitVec.ofNat 32 kv.val)) 4#32) 1#32)
      (Scalar.divsi (Scalar.muli 3#32 (BitVec.ofNat 32 kv.val)) 4#32)) 4#32)) : BitVec 32) = BitVec.ofNat 32 (laneOff kv) := by
  decide
theorem k0_off1_lane : ∀ j : grid0.Coords, k0_off1 j 2 = 128 * min (3 * (j 1).val / 4) 4 := by decide +kernel

theorem muli_ofNat (x y : ℕ) : IntOp.muli (BitVec.ofNat 32 x) (BitVec.ofNat 32 y) = BitVec.ofNat 32 (x * y) :=
  (BitVec.ofNat_mul x y).symm
theorem sel_sge {α : Type} (x y : ℕ) (hx : x < 2 ^ 31) (hy : y < 2 ^ 31) (a b : α) :
    Scalar.select (IntOp.cmpi .sge (BitVec.ofNat 32 x) (BitVec.ofNat 32 y)) a b = if y ≤ x then a else b := by
  simp (disch := word_cmp_side) only [hlo_ix]
theorem sel_andi {α : Type} (c e : BitVec 1) (a b : α) : Scalar.select (IntOp.andi c e) a b = Scalar.select c (Scalar.select e a b) b := by
  revert c e
  have h : ∀ c e : BitVec 1, IntOp.andi c e = if c = 1#1 then e else c := by decide
  intro c e
  rw [h]
  unfold Scalar.select
  split_ifs <;> simp_all

/-- A product with a 0-1 matrix that has its one at `a + b` of row `a` reads the entry there. -/
theorem pick {n : ℕ} (hn : n ≤ 1024) (f : Fin n → EReal) (a b k : ℕ) (hk : k < n) (hab : a + b = k) (w : BitVec 32) (hw : w = BitVec.ofNat 32 b) :
    ∑ x : Fin n, Scalar.select (IntOp.cmpi .eq (BitVec.ofNat 32 x.val) (IntOp.addi (BitVec.ofNat 32 a) w)) (f x) 0 = f ⟨k, hk⟩ := by
  subst hw hab
  refine (Finset.sum_congr rfl fun x _ => ?_).trans (sum_pick f ⟨a + b, hk⟩)
  rw [addi_ofNat, sel_eq _ _ (by omega) (by omega)]

theorem ldK_apply (s : Fin 640) (l : Fin 256) (c : Fin 768) (hc : 128 * min (3 * (i 1).val / 4) 4 + l.val = c.val) :
    ldK i x1 (ix3 0 s l) = x1 (ix3 0 s c) := by
  refine congrArg x1 (funext fun a => Fin.ext ?_)
  fin_cases a
  · rfl
  · show 0 + 1 * s.val = s.val
    omega
  · show k0_off1 i 2 + 1 * l.val = c.val
    rw [k0_off1_lane i]; omega

theorem rawK_apply (d : Fin 96) (s : Fin 640) : rawK i (ldK i x1) (ix2 d s) = kHead (i 1) x1 s d := by
  have hb : ∀ kv : Fin 8, laneOff kv + 96 ≤ 256 ∧ 128 * min (3 * kv.val / 4) 4 + laneOff kv = 96 * kv.val := by decide
  have h1 := hb (i 1)
  pointwise [rawK, selK, k0_pay9]
  refine (pick (by norm_num) (fun x => ldK i x1 (ix3 0 s x)) d.val (laneOff (i 1)) (d.val + laneOff (i 1)) (by omega) rfl _ (laneOff_word (i 1))).trans ?_
  exact ldK_apply i x1 s _ ⟨96 * (i 1).val + d.val, _⟩ (by show _ + (d.val + laneOff (i 1)) = 96 * (i 1).val + d.val; omega)

theorem rawX_apply (p : Fin 4) (u : Fin 2) (d : Fin 96) (s : Fin 640) :
    rawX (ldW x0) p (ix2 ⟨96 * u.val + d.val, by omega⟩ s) = qHead x0 (head p u) s d := by
  pointwise [rawX, selX]
  fin_cases p <;> simp only [selOff, ldW] <;> pointwise []
  · refine (pick (by norm_num) (fun x : Fin 256 => x0 (ix3 0 s ⟨x.val, by omega⟩)) _ 0 (96 * u.val + d.val) (by omega) rfl _ rfl).trans ?_
    exact congrArg (fun c => x0 (ix3 0 s c)) (Fin.ext (by show 96 * u.val + d.val = 96 * (2 * 0 + u.val) + d.val; omega))
  · refine (pick (by norm_num) (fun x : Fin 256 => x0 (ix3 0 s ⟨128 + x.val, by omega⟩)) _ 64 (96 * u.val + d.val + 64) (by omega) rfl _ rfl).trans ?_
    exact congrArg (fun c => x0 (ix3 0 s c)) (Fin.ext (by show 128 + (96 * u.val + d.val + 64) = 96 * (2 * 1 + u.val) + d.val; omega))
  · refine (pick (by norm_num) (fun x : Fin 256 => x0 (ix3 0 s ⟨384 + x.val, by omega⟩)) _ 0 (96 * u.val + d.val) (by omega) rfl _ rfl).trans ?_
    exact congrArg (fun c => x0 (ix3 0 s c)) (Fin.ext (by show 384 + (96 * u.val + d.val) = 96 * (2 * 2 + u.val) + d.val; omega))
  · refine (pick (by norm_num) (fun x : Fin 256 => x0 (ix3 0 s ⟨512 + x.val, by omega⟩)) _ 64 (96 * u.val + d.val + 64) (by omega) rfl _ rfl).trans ?_
    exact congrArg (fun c => x0 (ix3 0 s c)) (Fin.ext (by show 512 + (96 * u.val + d.val + 64) = 96 * (2 * 3 + u.val) + d.val; omega))

/-- A sum over the queries of which only one group counts is the sum over that group. -/
theorem sum_group (f : Fin 640 → EReal) (g : Fin 5) :
    (∑ x : Fin 640, if 128 * g.val ≤ x.val then (if x.val < 128 * g.val + 128 then f x else 0) else 0) = ∑ r : Fin 128, f (row g r) := by
  have e : ∀ x : Fin 640, (if 128 * g.val ≤ x.val then (if x.val < 128 * g.val + 128 then f x else 0) else 0)
      = if 128 * g.val ≤ x.val ∧ x.val < 128 * g.val + 128 then f x else 0 := fun x => by split_ifs <;> simp_all
  rw [Finset.sum_congr rfl fun x _ => e x, ← Finset.sum_filter]
  symm
  refine Finset.sum_bij (fun r _ => row g r) ?_ ?_ ?_ ?_
  · intro r _
    simp only [row, Finset.mem_filter, Finset.mem_univ, true_and]
    omega
  · intro r _ r' _ h
    have := congrArg Fin.val h
    simp only [row] at this
    exact Fin.ext (by omega)
  · intro x hx
    simp only [Finset.mem_filter, Finset.mem_univ, true_and] at hx
    exact ⟨⟨x.val - 128 * g.val, by omega⟩, Finset.mem_univ _, Fin.ext (by simp only [row]; omega)⟩
  · intro _ _; rfl

theorem mul_sum_coe {n : ℕ} {c : ℝ} (hc : 0 ≤ c) (f : Fin n → EReal) : ∑ r, (c : EReal) * f r = (c : EReal) * ∑ r, f r := by
  induction n with
  | zero => simp
  | succ n ih =>
    rw [Fin.sum_univ_succ, Fin.sum_univ_succ, ih, EReal.left_distrib_of_nonneg_of_ne_top (EReal.coe_nonneg.mpr hc) (EReal.coe_ne_top c)]

theorem mqV_apply (h : Fin 8) (d : Fin 96) (g : Fin 5) :
    mqV (ldA x0) (ix2 ⟨96 * h.val + d.val, by omega⟩ ⟨g.val, by omega⟩) = MQ (qHead x0 h) g d := by
  pointwise [mqV, indV, ldA]
  refine (Finset.sum_congr rfl fun x _ => ?_).trans ((sum_group (fun x => i128 * qHead x0 h x d) g).trans ?_)
  · rw [muli_ofNat, addi_ofNat, sel_andi, sel_sge _ _ (by omega) (by omega), sel_slt _ _ (by omega) (by omega), Nat.mul_comm g.val]
    rfl
  · rw [i128_eq, mul_sum_coe (by norm_num), MQ, c128_eq, Ideal.div_coe (by norm_num), mul_comm]

theorem outAt_apply (s : Fin 640) (h : Fin 8) (d : Fin 96) :
    outAt i x0 x1 x2 (ix3 0 s ⟨96 * h.val + d.val, by omega⟩) = kerO (qHead x0 h) (kHead (i 1) x1) (kHead (i 1) x2) s d :=
  OUT_apply i (ldA x0) (ldW x0) (ldK i x1) (ldK i x2) (kHead (i 1) x1) (kHead (i 1) x2) (rawK_apply i x1) (rawK_apply i x2)
    (qHead x0) (rawX_apply x0) (mqV_apply x0) s h d

end Cert.KernelIdeal.Body
-- ==== Proof.Stores.lean ====
module

public import proofs.«01_k».proof.Proof.Blocks

@[expose] public section

/-! The arrays of codes and of query means a grid point writes, from the pieces stored, and what they hold. -/

set_option maxRecDepth 16384

noncomputable section

namespace Cert.KernelIdeal.Body

open Cert.KernelIdeal Cert.KernelIdeal.Gen Idealize.ShloMosaic Idealize.ShloMosaic.TcCoe Idealize.ShloMosaic.Pointwise Idealize.SL.Sem
open Cert.Spec

section Reads
variable {F : FTy → Type} [FloatOps F] [Named F]
variable {sig' : RefSig} {κ' : Kind} {sp : Space}

/-! ### Key and value codes -/

/-- One store of a whole block leaves its payload. -/
theorem whole_read (v : View sig' κ' sp S1x1x96x640 .fp8e4m3) (f : v.ty.Contents (Elt F)) (R R' : FVec F S1x1x96x640 .fp8e4m3) (inb) (h : R = R') :
    v.read (Elt F) (v.writes (Elt F) f [⟨Rect.unit (s := S1x1x96x640) ![0, 0, 0, 0] S1x1x96x640.size inb, R⟩]) = R' := by
  subst h
  funext y
  refine View.read_writes_cons_unit_of_mem v f _ _ _ y y rfl fun a => ?_
  fin_cases a
  · show (y 0).val = 0 + (y 0).val; omega
  · show (y 1).val = 0 + (y 1).val; omega
  · show (y 2).val = 0 + (y 2).val; omega
  · show (y 3).val = 0 + (y 3).val; omega

def KT (i : grid0.Coords) (KW : Vec F S1x640x256 .bf16) : FVec F S1x1x96x640 .fp8e4m3 := shapeCast S1x1x96x640 (kcV i KW) shapeCasts_S96x640_S1x1x96x640
def VT (i : grid0.Coords) (VW : Vec F S1x640x256 .bf16) : FVec F S1x1x96x640 .fp8e4m3 := shapeCast S1x1x96x640 (vcV i VW) shapeCasts_S96x640_S1x1x96x640
/-- The key codes a grid point writes. -/
def ktAt (i : grid0.Coords) (x : Vec F S1x640x768 .bf16) : Vec F S1x1x96x640 .fp8e4m3 := KT i (ldK i x)
/-- The value codes a grid point writes. -/
def vtAt (i : grid0.Coords) (x : Vec F S1x640x768 .bf16) : Vec F S1x1x96x640 .fp8e4m3 := VT i (ldK i x)
theorem kt_of (i : grid0.Coords) {a x : Vec F S1x640x768 .bf16} (h : a = x) : KT i (ldK i a) = ktAt i x := by subst h; rfl
theorem vt_of (i : grid0.Coords) {a x : Vec F S1x640x768 .bf16} (h : a = x) : VT i (ldK i a) = vtAt i x := by subst h; rfl

/-! ### Query codes -/

variable (XA : Vec F S1x640x768 .bf16) (XW : Fin 4 → Vec F S1x640x256 .bf16)

/-- The store of the codes of head `2 p + u` in row group `g`. -/
def qpiece (p : Fin 4) (g : Fin 5) (u : Fin 2) : View.Piece (Elt F) S1x8x96x640 .fp8e4m3 :=
  ⟨Rect.unit (s := S1x8x96x640) ![0, 2 * p.val + u.val, 0, 128 * g.val] S1x1x96x128.size (by
      intro a
      fin_cases a
      · show 0 + 1 ≤ 1; omega
      · show 2 * p.val + u.val + 1 ≤ 8; omega
      · show 0 + 96 ≤ 96; omega
      · show 128 * g.val + 128 ≤ 640; omega),
    (shapeCast S1x1x96x128 (qcode XA XW p u g) shapeCasts_S96x128_S1x1x96x128 : FVec F S1x1x96x128 .fp8e4m3)⟩

/-- The stores of the codes, newest first. -/
def qpieces : List (Fin 4 × Fin 5 × Fin 2) → List (View.Piece (Elt F) S1x8x96x640 .fp8e4m3)
  | [] => []
  | t :: l => qpiece XA XW t.1 t.2.1 t.2.2 :: qpieces l

/-- The order in which they are stored, newest first. -/
def qorder : List (Fin 4 × Fin 5 × Fin 2) :=
  [(3, 4, 1), (3, 4, 0), (3, 3, 1), (3, 3, 0), (3, 2, 1), (3, 2, 0), (3, 1, 1), (3, 1, 0), (3, 0, 1), (3, 0, 0),
   (2, 4, 1), (2, 4, 0), (2, 3, 1), (2, 3, 0), (2, 2, 1), (2, 2, 0), (2, 1, 1), (2, 1, 0), (2, 0, 1), (2, 0, 0),
   (1, 4, 1), (1, 4, 0), (1, 3, 1), (1, 3, 0), (1, 2, 1), (1, 2, 0), (1, 1, 1), (1, 1, 0), (1, 0, 1), (1, 0, 0),
   (0, 4, 1), (0, 4, 0), (0, 3, 1), (0, 3, 0), (0, 2, 1), (0, 2, 0), (0, 1, 1), (0, 1, 0), (0, 0, 1), (0, 0, 0)]
theorem qorder_all : ∀ t : Fin 4 × Fin 5 × Fin 2, t ∈ qorder := by decide +kernel

theorem qpieces_read (v : View sig' κ' sp S1x8x96x640 .fp8e4m3) (f : v.ty.Contents (Elt F)) (y : S1x8x96x640.Idx) (p : Fin 4) (g : Fin 5) (u : Fin 2)
    (d : Fin 96) (r : Fin 128) (h1 : (y 1).val = 2 * p.val + u.val) (h2 : (y 2).val = d.val) (h3 : (y 3).val = 128 * g.val + r.val) :
    ∀ l : List (Fin 4 × Fin 5 × Fin 2), (p, g, u) ∈ l →
      v.read (Elt F) (v.writes (Elt F) f (qpieces XA XW l)) y
        = (shapeCast S1x1x96x128 (qcode XA XW p u g) shapeCasts_S96x128_S1x1x96x128 : FVec F S1x1x96x128 .fp8e4m3) (ix4 0 0 d r)
  | [], h => absurd h (List.not_mem_nil)
  | (p', g', u') :: l, h => by
    have h0 : (y 0).val < 1 := (y 0).isLt
    unfold qpieces qpiece
    by_cases e : (p, g, u) = (p', g', u')
    · obtain ⟨rfl, rfl, rfl⟩ : p = p' ∧ g = g' ∧ u = u' := by simpa using e
      refine View.read_writes_cons_unit_of_mem v f _ _ _ y (ix4 (0 : Fin 1) (0 : Fin 1) d r) rfl fun a => ?_
      fin_cases a
      · show (y 0).val = 0 + 0; omega
      · exact h1
      · show (y 2).val = 0 + d.val; omega
      · exact h3
    · have hl : (p, g, u) ∈ l := (List.mem_cons.mp h).resolve_left e
      by_cases eg : g = g'
      · have ne : 2 * p.val + u.val ≠ 2 * p'.val + u'.val := fun q =>
          e (by rw [eg, show p = p' from Fin.ext (by omega), show u = u' from Fin.ext (by omega)])
        rw [View.read_writes_cons_unit_of_not_mem v f _ _ _ y rfl 1 (by
          show (y 1).val < 2 * p'.val + u'.val ∨ 2 * p'.val + u'.val + 1 ≤ (y 1).val
          omega)]
        exact qpieces_read v f y p g u d r h1 h2 h3 l hl
      · have ne : g.val ≠ g'.val := fun q => eg (Fin.ext q)
        rw [View.read_writes_cons_unit_of_not_mem v f _ _ _ y rfl 3 (by
          show (y 3).val < 128 * g'.val ∨ 128 * g'.val + 128 ≤ (y 3).val
          omega)]
        exact qpieces_read v f y p g u d r h1 h2 h3 l hl

def QT : Vec F S1x8x96x640 .fp8e4m3 := fun j =>
  (shapeCast S1x1x96x128 (qcode XA XW ⟨(j 1).val / 2, by have := (j 1).isLt; change (j 1).val < 8 at this; omega⟩ ⟨(j 1).val % 2, Nat.mod_lt _ (by decide)⟩
      ⟨(j 3).val / 128, by have := (j 3).isLt; change (j 3).val < 640 at this; omega⟩)
    shapeCasts_S96x128_S1x1x96x128 : FVec F S1x1x96x128 .fp8e4m3) (ix4 0 0 ⟨(j 2).val, (j 2).isLt⟩ ⟨(j 3).val % 128, Nat.mod_lt _ (by decide)⟩)
theorem QT_read (v : View sig' κ' sp S1x8x96x640 .fp8e4m3) (f : v.ty.Contents (Elt F)) :
    v.read (Elt F) (v.writes (Elt F) f (qpieces XA XW qorder)) = QT XA XW := by
  funext j
  refine qpieces_read XA XW v f j _ _ _ _ _ ?_ rfl ?_ qorder (qorder_all _)
  · show (j 1).val = 2 * ((j 1).val / 2) + (j 1).val % 2; omega
  · show (j 3).val = 128 * ((j 3).val / 128) + (j 3).val % 128; omega
/-- The query codes a grid point writes. -/
def qtAt (x : Vec F S1x640x768 .bf16) : Vec F S1x8x96x640 .fp8e4m3 := QT (ldA x) (ldW x)
theorem qt_of {a x : Vec F S1x640x768 .bf16} (h : a = x) : QT (ldA a) (ldW a) = qtAt x := by subst h; rfl

/-! ### Query means -/

/-- The means of the row groups, `[8, 768]`. -/
def mrV : FVec F S8x768 .f32 :=
  extf .f32 (truncf .bf16 (matmul dot_S8x640_S640x768_S8x768_1_0_0_1_n_n none indV
    (shapeCast S640x768 XA shapeCasts_S1x640x768_S640x768 : FVec F S640x768 .bf16) (constant S8x768 .f32 0x00000000#32)) bitsLt_bf16_f32) bitsLt_bf16_f32
/-- The means of head `h`, padded to a whole tile. -/
def mpadV (h : Fin 8) : FVec F S8x128 .f32 :=
  shapeCast S8x128 (concatenate S8x128 1 [⟨S8x96, extractStridedSlice S8x96 ![0, 96 * h.val] (mrV XA) (slices2 (by omega) (by omega))⟩,
    ⟨S8x32, broadcast S8x32 (Scalar.sitofp .f32 0#32)⟩] concatenates_S8x96_S8x32_S8x128_d1) shapeCasts_S8x128_S8x128

theorem mrect_inb (h : Fin 8) : ∀ a, S8x128.size a = 0 ∨ (![h.val, 0] : Fin 2 → ℕ) a + (![8, 1] : Fin 2 → ℕ) a * (S8x128.size a - 1) < S64x128.size a := by
  intro a; right
  fin_cases a
  · show h.val + 8 * (8 - 1) < 64; omega
  · show 0 + 1 * (128 - 1) < 128; omega
/-- The rows the means of head `h` are stored to: every eighth, from `h`. -/
def mrect (h : Fin 8) : Rect S64x128 := ⟨(⟨![h.val, 0], S8x128.size, ![8, 1], mrect_inb h⟩ : LoadRect S64x128), spos_8_1⟩
/-- The stores of the means, newest first. -/
def mpieces : List (Fin 8) → List (View.Piece (Elt F) S64x128 .f32)
  | [] => []
  | h :: l => ⟨mrect h, mpadV XA h⟩ :: mpieces l
def morder : List (Fin 8) := [7, 6, 5, 4, 3, 2, 1, 0]
theorem morder_all : ∀ h : Fin 8, h ∈ morder := by decide

theorem mpieces_read (v : View sig' κ' sp S64x128 .f32) (f : v.ty.Contents (Elt F)) (y : S64x128.Idx) (h r : Fin 8) (c : Fin 128)
    (h0 : (y 0).val = h.val + 8 * r.val) (h1 : (y 1).val = c.val) :
    ∀ l : List (Fin 8), h ∈ l → v.read (Elt F) (v.writes (Elt F) f (mpieces XA l)) y = mpadV XA h (ix2 r c)
  | [], m => absurd m (List.not_mem_nil)
  | h' :: l, m => by
    unfold mpieces
    by_cases e : h = h'
    · subst e
      have hy : y = (mrect h).emb (ix2 r c) := by
        funext a; apply Fin.ext
        match a with
        | ⟨0, _⟩ => exact h0
        | ⟨1, _⟩ => show (y 1).val = 0 + 1 * c.val; omega
      rw [hy]
      exact View.read_writes_cons_emb v f (mrect h) (mpadV XA h) (mpieces XA l) (ix2 r c)
    · have ne : h.val ≠ h'.val := fun q => e (Fin.ext q)
      have hy : y ∉ Finset.univ.map (mrect h').emb := by
        rw [Rect.map_emb_univ, LoadRect.mem_set]
        intro q
        obtain ⟨j, _, ej⟩ := q 0
        change (y 0).val = h'.val + 8 * j at ej
        omega
      rw [View.writes_cons]
      exact (View.read_slice_write_of_not_mem _ _ _ _ hy).trans (mpieces_read v f y h r c h0 h1 l ((List.mem_cons.mp m).resolve_left e))

/-- The means of row group `g`, one row per head. -/
def mgrp (g : Fin 5) : Vec F S8x128 .f32 := fun j => mpadV XA ⟨(j 0).val, (j 0).isLt⟩ (ix2 ⟨g.val, lt_eight g⟩ ⟨(j 1).val, (j 1).isLt⟩)
/-- The means of row group `g` as they are stored. -/
def mrow (g : Fin 5) : FVec F S1x1x8x96 .bf16 :=
  shapeCast S1x1x8x96 (truncf .bf16 (extractStridedSlice S8x96 ![0, 0] (mgrp XA g) slices_S8x128_o0_0_S8x96) bitsLt_bf16_f32) shapeCasts_S8x96_S1x1x8x96
theorem mgrp_read (g : Fin 5) (v : View sig' κ' sp S64x128 .f32) (f : v.ty.Contents (Elt F)) (inb) :
    v.readAt (Elt F) (Rect.unit (s := S64x128) ![8 * g.val, 0] S8x128.size inb).toLoadRect (v.writes (Elt F) f (mpieces XA morder)) = mgrp XA g := by
  funext j
  refine mpieces_read XA v f _ ⟨(j 0).val, (j 0).isLt⟩ ⟨g.val, lt_eight g⟩ ⟨(j 1).val, (j 1).isLt⟩ ?_ ?_ morder (morder_all _)
  · show 8 * g.val + 1 * (j 0).val = (j 0).val + 8 * g.val; omega
  · show 0 + 1 * (j 1).val = (j 1).val; omega
theorem mrow_read (g : Fin 5) (v : View sig' κ' sp S64x128 .f32) (f : v.ty.Contents (Elt F)) (inb) :
    shapeCast S1x1x8x96 (truncf .bf16 (extractStridedSlice (s := S8x128) S8x96 ![0, 0]
      (v.readAt (Elt F) (Rect.unit (s := S64x128) ![8 * g.val, 0] S8x128.size inb).toLoadRect (v.writes (Elt F) f (mpieces XA morder)) : Vec F S8x128 .f32)
      slices_S8x128_o0_0_S8x96) bitsLt_bf16_f32) shapeCasts_S8x96_S1x1x8x96 = mrow XA g := by
  rw [mgrp_read XA g v f inb]; rfl

/-- The stores of the row groups' means, newest first. -/
def gpieces (R : Fin 5 → FVec F S1x1x8x96 .bf16) : (k : ℕ) → k ≤ 5 → List (View.Piece (Elt F) S1x5x8x96 .bf16)
  | 0, _ => []
  | k + 1, h => ⟨Rect.unit (s := S1x5x8x96) ![0, k, 0, 0] S1x1x8x96.size (by
        intro a
        fin_cases a
        · show 0 + 1 ≤ 1; omega
        · show k + 1 ≤ 5; omega
        · show 0 + 8 ≤ 8; omega
        · show 0 + 96 ≤ 96; omega), R ⟨k, h⟩⟩
      :: gpieces R k (Nat.le_of_succ_le h)
theorem gpieces_read (R : Fin 5 → FVec F S1x1x8x96 .bf16) (v : View sig' κ' sp S1x5x8x96 .bf16) (f : v.ty.Contents (Elt F)) (y : S1x5x8x96.Idx) :
    ∀ (k : ℕ) (hk : k ≤ 5) (b : Fin 5), b.val < k → (y 1).val = b.val →
      v.read (Elt F) (v.writes (Elt F) f (gpieces R k hk)) y = R b (ix4 0 0 ⟨(y 2).val, (y 2).isLt⟩ ⟨(y 3).val, (y 3).isLt⟩)
  | 0, _, _, hb, _ => absurd hb (Nat.not_lt_zero _)
  | k + 1, hk, b, hb, h1 => by
    have h0 : (y 0).val < 1 := (y 0).isLt
    unfold gpieces
    by_cases hbk : b.val = k
    · obtain rfl : b = ⟨k, hk⟩ := Fin.ext hbk
      refine View.read_writes_cons_unit_of_mem v f _ _ _ y (ix4 (0 : Fin 1) (0 : Fin 1) ⟨(y 2).val, (y 2).isLt⟩ ⟨(y 3).val, (y 3).isLt⟩) rfl ?_
      intro a; fin_cases a
      · show (y 0).val = 0 + 0; omega
      · exact h1
      · show (y 2).val = 0 + (y 2).val; omega
      · show (y 3).val = 0 + (y 3).val; omega
    · rw [View.read_writes_cons_unit_of_not_mem v f _ _ _ y rfl 1 (Or.inl (by
        show (y 1).val < k
        omega))]
      exact gpieces_read R v f y k _ b (by omega) h1
def MT : Vec F S1x5x8x96 .bf16 := fun j => mrow XA ⟨(j 1).val, (j 1).isLt⟩ (ix4 0 0 ⟨(j 2).val, (j 2).isLt⟩ ⟨(j 3).val, (j 3).isLt⟩)
theorem MT_read (v : View sig' κ' sp S1x5x8x96 .bf16) (f : v.ty.Contents (Elt F)) (R0 R1 R2 R3 R4 : FVec F S1x1x8x96 .bf16)
    (h0 : R0 = mrow XA 0) (h1 : R1 = mrow XA 1) (h2 : R2 = mrow XA 2) (h3 : R3 = mrow XA 3) (h4 : R4 = mrow XA 4) :
    v.read (Elt F) (v.writes (Elt F) f (gpieces (fun g => match g with | 0 => R0 | 1 => R1 | 2 => R2 | 3 => R3 | 4 => R4) 5 (le_refl _))) = MT XA := by
  have hR : (fun g : Fin 5 => match g with | 0 => R0 | 1 => R1 | 2 => R2 | 3 => R3 | 4 => R4) = mrow XA := funext fun g => by fin_cases g <;> assumption
  rw [hR]
  funext j
  exact gpieces_read (mrow XA) v f j 5 (le_refl _) ⟨(j 1).val, (j 1).isLt⟩ (j 1).isLt rfl
/-- The query means a grid point writes. -/
def mqAt (x : Vec F S1x640x768 .bf16) : Vec F S1x5x8x96 .bf16 := MT (ldA x)
theorem mq_of {a x : Vec F S1x640x768 .bf16} (h : a = x) : MT (ldA a) = mqAt x := by subst h; rfl
end Reads

/-! ### What they hold -/

section Values
variable (i : grid0.Coords) (x0 x1 x2 : Vec Ideal S1x640x768 .bf16)

theorem ktAt_apply (d : Fin 96) (s : Fin 640) : ktAt i x1 (ix4 0 0 d s) = KC (kHead (i 1) x1) s d := by
  rw [← kcV_apply i (ldK i x1) (kHead (i 1) x1) (rawK_apply i x1) d s, ktAt, KT]
  generalize kcV i (ldK i x1) = c
  pointwise []
theorem vtAt_apply (d : Fin 96) (s : Fin 640) : vtAt i x2 (ix4 0 0 d s) = VC (kHead (i 1) x2) s d := by
  rw [← vcV_apply i (ldK i x2) (kHead (i 1) x2) (rawK_apply i x2) d s, vtAt, VT]
  generalize vcV i (ldK i x2) = c
  pointwise []
theorem code_view (c : FVec Ideal S96x128 .fp8e4m3) (d : Fin 96) (r : Fin 128) :
    (shapeCast S1x1x96x128 c shapeCasts_S96x128_S1x1x96x128 : FVec Ideal S1x1x96x128 .fp8e4m3) (ix4 0 0 d r) = c (ix2 d r) := by
  pointwise []
theorem QT_apply (XA : Vec Ideal S1x640x768 .bf16) (XW : Fin 4 → Vec Ideal S1x640x256 .bf16) (h : Fin 8) (d : Fin 96) (s : Fin 640) :
    QT XA XW (ix4 0 h d s) = qcode XA XW ⟨h.val / 2, by omega⟩ ⟨h.val % 2, by omega⟩ ⟨s.val / 128, by omega⟩ (ix2 d ⟨s.val % 128, by omega⟩) :=
  code_view (qcode XA XW ⟨h.val / 2, by omega⟩ ⟨h.val % 2, by omega⟩ ⟨s.val / 128, by omega⟩) d ⟨s.val % 128, by omega⟩
theorem head_split (h : Fin 8) : head ⟨h.val / 2, by omega⟩ ⟨h.val % 2, by omega⟩ = h := Fin.ext (by show 2 * (h.val / 2) + h.val % 2 = h.val; omega)
theorem row_split (s : Fin 640) : row ⟨s.val / 128, by omega⟩ ⟨s.val % 128, by omega⟩ = s := Fin.ext (by show 128 * (s.val / 128) + s.val % 128 = s.val; omega)
theorem qtAt_apply (h : Fin 8) (d : Fin 96) (s : Fin 640) : qtAt x0 (ix4 0 h d s) = QC (qHead x0 h) s d := by
  rw [qtAt, QT_apply, qcode_apply (ldA x0) (ldW x0) (qHead x0) (rawX_apply x0) (mqV_apply x0), head_split, row_split]

theorem mrV_apply (g : Fin 5) (h : Fin 8) (d : Fin 96) :
    mrV (ldA x0) (ix2 ⟨g.val, lt_eight g⟩ ⟨96 * h.val + d.val, by omega⟩) = MQ (qHead x0 h) g d := by
  rw [← mqV_apply x0 h d g, show mqV (ldA x0) = transpose S768x8 [1, 0] (mrV (ldA x0)) transposes_S8x768_p1_0_S768x8 from rfl]
  generalize mrV (ldA x0) = c
  pointwise []
theorem mpadV_apply (g : Fin 5) (h : Fin 8) (d : Fin 96) :
    mpadV (ldA x0) h (ix2 ⟨g.val, lt_eight g⟩ ⟨d.val, by omega⟩) = MQ (qHead x0 h) g d := by
  rw [← mrV_apply x0 g h d, mpadV]
  generalize mrV (ldA x0) = c
  pointwise []
theorem mrow_view (XA : Vec Ideal S1x640x768 .bf16) (g : Fin 5) (h : Fin 8) (d : Fin 96) :
    mrow XA g (ix4 0 0 h d) = mgrp XA g (ix2 h ⟨d.val, by omega⟩) := by
  rw [mrow]
  generalize mgrp XA g = c
  pointwise []
theorem mqAt_apply (g : Fin 5) (h : Fin 8) (d : Fin 96) : mqAt x0 (ix4 0 g h d) = MQ (qHead x0 h) g d :=
  (mrow_view (ldA x0) g h d).trans (mpadV_apply x0 g h d)
end Values

end Cert.KernelIdeal.Body
-- ==== Proof.Run.lean ====
module

public import proofs.«01_k».proof.Proof.Runs
public import proofs.«01_k».proof.Proof.Stores

@[expose] public section

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem out_of (i : grid0.Coords) {a b d x0 x1 x2 : Vec F S1x640x768 .bf16} (h0 : a = x0) (h1 : b = x1) (h2 : d = x2) :
    OUT i (ldA a) (ldW a) (ldK i b) (ldK i d) = outAt i x0 x1 x2 := by
  subst h0; subst h1; subst h2; rfl

set_option maxHeartbeats 17776000 in
/-- The body's triple, whichever of its branches are taken: the result's block ends at `Body.outAt` of the blocks it is
    given, the codes and the query means at theirs, the other outputs and the scratch at some contents. -/
theorem bodyRun (c : Dev nD) (i : grid0.Coords) (arg2 : Memref sig .tc .vmem S1x640x768 .bf16) (harg2 : arg2.IsWhole) (arg3 : Memref sig .tc .vmem S1x640x768 .bf16) (harg3 : arg3.IsWhole) (arg4 : Memref sig .tc .vmem S1x640x768 .bf16) (harg4 : arg4.IsWhole) (arg5 : Memref sig .tc .vmem S1x640x768 .bf16) (harg5 : arg5.IsWhole) (arg6 : Memref sig .tc .vmem S1x8x96x640 .fp8e4m3) (harg6 : arg6.IsWhole) (arg7 : Memref sig .tc .vmem S5x3x64 .f32) (harg7 : arg7.IsWhole) (arg8 : Memref sig .tc .vmem S1x5x8x96 .bf16) (harg8 : arg8.IsWhole) (arg9 : Memref sig .tc .vmem S1x1x96x640 .fp8e4m3) (harg9 : arg9.IsWhole) (arg10 : Memref sig .tc .vmem S1x8x10 .f32) (harg10 : arg10.IsWhole) (arg11 : Memref sig .tc .vmem S1x8x96 .bf16) (harg11 : arg11.IsWhole) (arg12 : Memref sig .tc .vmem S1x1x96x640 .fp8e4m3) (harg12 : arg12.IsWhole) (arg13 : Memref sig .tc .vmem S1x8x96 .f32) (harg13 : arg13.IsWhole) (arg14 : Memref sig .tc .vmem S640x256 .f32) (harg14 : arg14.IsWhole) (arg15 : Memref sig .tc .vmem S768x128 .bf16) (harg15 : arg15.IsWhole) (arg16 : Memref sig .tc .vmem S64x128 .f32) (harg16 : arg16.IsWhole) (h10 : cond0_1 i → cond0_0 i)
    (x0 : Vec F S1x640x768 .bf16) (x1 : Vec F S1x640x768 .bf16) (x2 : Vec F S1x640x768 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare (outAt i x0 x1 x2) ∗ owns (c : Thread nD τ) arg6 fullShare (qtAt x0) ∗ (∃ d, owns (c : Thread nD τ) arg7 fullShare d) ∗ owns (c : Thread nD τ) arg8 fullShare (mqAt x0) ∗ owns (c : Thread nD τ) arg9 fullShare (ktAt i x1) ∗ (∃ d, owns (c : Thread nD τ) arg10 fullShare d) ∗ (∃ d, owns (c : Thread nD τ) arg11 fullShare d) ∗ owns (c : Thread nD τ) arg12 fullShare (vtAt i x2) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0__body_eq_skeleton]; unfold cc0__body_skel
    simp only [k0_part180_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part181_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part182_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton]
    have key : (cond0_0 i ∧ cond0_1 i) ∨ (cond0_0 i ∧ ¬ cond0_1 i) ∨ (¬ cond0_0 i ∧ ¬ cond0_1 i) := by tauto
    rcases key with ⟨hc0, hc1⟩ | ⟨hc0, hc1⟩ | ⟨hc0, hc1⟩
    all_goals
        unfold owns
        iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, Hk⟩
        obtain rfl := harg2.eq_unread hf0; obtain rfl := harg3.eq_unread hf1; obtain rfl := harg4.eq_unread hf2
        sl_exec (disch := first | sl_exact hc0 | sl_exact hc1)
        sl_step
        iapply Hk
        isplitl [H0]
        · iexists _; isplitr; · ipureintro; exact harg2.read_unread _
          iexact H0
        isplitl [H1]
        · iexists _; isplitr; · ipureintro; exact harg3.read_unread _
          iexact H1
        isplitl [H2]
        · iexists _; isplitr; · ipureintro; exact harg4.read_unread _
          iexact H2
        isplitl [H3]
        · iexists _; isplitr; swap; · iexact H3
          ipureintro
          have e : OUT i (ldA (arg2.view.read (Elt F) (harg2.unread x0))) (ldW (arg2.view.read (Elt F) (harg2.unread x0))) (ldK i (arg3.view.read (Elt F) (harg3.unread x1))) (ldK i (arg4.view.read (Elt F) (harg4.unread x2))) = outAt i x0 x1 x2 := by
            exact out_of i (harg2.read_unread _) (harg3.read_unread _) (harg4.read_unread _)
          rw [← e]
          refine OUT_read' i (ldA (arg2.view.read (Elt F) (harg2.unread x0))) (ldW (arg2.view.read (Elt F) (harg2.unread x0))) (ldK i (arg3.view.read (Elt F) (harg3.unread x1))) (ldK i (arg4.view.read (Elt F) (harg4.unread x2))) arg5.view f3 _ _ _ _ _ ?_ ?_ ?_ ?_ ?_
          · refine orow_read i (ldA (arg2.view.read (Elt F) (harg2.unread x0))) (ldW (arg2.view.read (Elt F) (harg2.unread x0))) (ldK i (arg3.view.read (Elt F) (harg3.unread x1))) (ldK i (arg4.view.read (Elt F) (harg4.unread x2))) 0 arg15.view _ _ _ _ _ _ ?_ ?_ ?_ ?_
            · exact opair_read i (ldA (arg2.view.read (Elt F) (harg2.unread x0))) (ldW (arg2.view.read (Elt F) (harg2.unread x0))) (ldK i (arg3.view.read (Elt F) (harg3.unread x1))) (ldK i (arg4.view.read (Elt F) (harg4.unread x2))) 0 0 arg14.view _ _ _ _
            · exact opair_read i (ldA (arg2.view.read (Elt F) (harg2.unread x0))) (ldW (arg2.view.read (Elt F) (harg2.unread x0))) (ldK i (arg3.view.read (Elt F) (harg3.unread x1))) (ldK i (arg4.view.read (Elt F) (harg4.unread x2))) 0 1 arg14.view _ _ _ _
            · exact opair_read i (ldA (arg2.view.read (Elt F) (harg2.unread x0))) (ldW (arg2.view.read (Elt F) (harg2.unread x0))) (ldK i (arg3.view.read (Elt F) (harg3.unread x1))) (ldK i (arg4.view.read (Elt F) (harg4.unread x2))) 0 2 arg14.view _ _ _ _
            · exact opair_read i (ldA (arg2.view.read (Elt F) (harg2.unread x0))) (ldW (arg2.view.read (Elt F) (harg2.unread x0))) (ldK i (arg3.view.read (Elt F) (harg3.unread x1))) (ldK i (arg4.view.read (Elt F) (harg4.unread x2))) 0 3 arg14.view _ _ _ _
          · refine orow_read i (ldA (arg2.view.read (Elt F) (harg2.unread x0))) (ldW (arg2.view.read (Elt F) (harg2.unread x0))) (ldK i (arg3.view.read (Elt F) (harg3.unread x1))) (ldK i (arg4.view.read (Elt F) (harg4.unread x2))) 1 arg15.view _ _ _ _ _ _ ?_ ?_ ?_ ?_
            · exact opair_read i (ldA (arg2.view.read (Elt F) (harg2.unread x0))) (ldW (arg2.view.read (Elt F) (harg2.unread x0))) (ldK i (arg3.view.read (Elt F) (harg3.unread x1))) (ldK i (arg4.view.read (Elt F) (harg4.unread x2))) 1 0 arg14.view _ _ _ _
            · exact opair_read i (ldA (arg2.view.read (Elt F) (harg2.unread x0))) (ldW (arg2.view.read (Elt F) (harg2.unread x0))) (ldK i (arg3.view.read (Elt F) (harg3.unread x1))) (ldK i (arg4.view.read (Elt F) (harg4.unread x2))) 1 1 arg14.view _ _ _ _
            · exact opair_read i (ldA (arg2.view.read (Elt F) (harg2.unread x0))) (ldW (arg2.view.read (Elt F) (harg2.unread x0))) (ldK i (arg3.view.read (Elt F) (harg3.unread x1))) (ldK i (arg4.view.read (Elt F) (harg4.unread x2))) 1 2 arg14.view _ _ _ _
            · exact opair_read i (ldA (arg2.view.read (Elt F) (harg2.unread x0))) (ldW (arg2.view.read (Elt F) (harg2.unread x0))) (ldK i (arg3.view.read (Elt F) (harg3.unread x1))) (ldK i (arg4.view.read (Elt F) (harg4.unread x2))) 1 3 arg14.view _ _ _ _
          · refine orow_read i (ldA (arg2.view.read (Elt F) (harg2.unread x0))) (ldW (arg2.view.read (Elt F) (harg2.unread x0))) (ldK i (arg3.view.read (Elt F) (harg3.unread x1))) (ldK i (arg4.view.read (Elt F) (harg4.unread x2))) 2 arg15.view _ _ _ _ _ _ ?_ ?_ ?_ ?_
            · exact opair_read i (ldA (arg2.view.read (Elt F) (harg2.unread x0))) (ldW (arg2.view.read (Elt F) (harg2.unread x0))) (ldK i (arg3.view.read (Elt F) (harg3.unread x1))) (ldK i (arg4.view.read (Elt F) (harg4.unread x2))) 2 0 arg14.view _ _ _ _
            · exact opair_read i (ldA (arg2.view.read (Elt F) (harg2.unread x0))) (ldW (arg2.view.read (Elt F) (harg2.unread x0))) (ldK i (arg3.view.read (Elt F) (harg3.unread x1))) (ldK i (arg4.view.read (Elt F) (harg4.unread x2))) 2 1 arg14.view _ _ _ _
            · exact opair_read i (ldA (arg2.view.read (Elt F) (harg2.unread x0))) (ldW (arg2.view.read (Elt F) (harg2.unread x0))) (ldK i (arg3.view.read (Elt F) (harg3.unread x1))) (ldK i (arg4.view.read (Elt F) (harg4.unread x2))) 2 2 arg14.view _ _ _ _
            · exact opair_read i (ldA (arg2.view.read (Elt F) (harg2.unread x0))) (ldW (arg2.view.read (Elt F) (harg2.unread x0))) (ldK i (arg3.view.read (Elt F) (harg3.unread x1))) (ldK i (arg4.view.read (Elt F) (harg4.unread x2))) 2 3 arg14.view _ _ _ _
          · refine orow_read i (ldA (arg2.view.read (Elt F) (harg2.unread x0))) (ldW (arg2.view.read (Elt F) (harg2.unread x0))) (ldK i (arg3.view.read (Elt F) (harg3.unread x1))) (ldK i (arg4.view.read (Elt F) (harg4.unread x2))) 3 arg15.view _ _ _ _ _ _ ?_ ?_ ?_ ?_
            · exact opair_read i (ldA (arg2.view.read (Elt F) (harg2.unread x0))) (ldW (arg2.view.read (Elt F) (harg2.unread x0))) (ldK i (arg3.view.read (Elt F) (harg3.unread x1))) (ldK i (arg4.view.read (Elt F) (harg4.unread x2))) 3 0 arg14.view _ _ _ _
            · exact opair_read i (ldA (arg2.view.read (Elt F) (harg2.unread x0))) (ldW (arg2.view.read (Elt F) (harg2.unread x0))) (ldK i (arg3.view.read (Elt F) (harg3.unread x1))) (ldK i (arg4.view.read (Elt F) (harg4.unread x2))) 3 1 arg14.view _ _ _ _
            · exact opair_read i (ldA (arg2.view.read (Elt F) (harg2.unread x0))) (ldW (arg2.view.read (Elt F) (harg2.unread x0))) (ldK i (arg3.view.read (Elt F) (harg3.unread x1))) (ldK i (arg4.view.read (Elt F) (harg4.unread x2))) 3 2 arg14.view _ _ _ _
            · exact opair_read i (ldA (arg2.view.read (Elt F) (harg2.unread x0))) (ldW (arg2.view.read (Elt F) (harg2.unread x0))) (ldK i (arg3.view.read (Elt F) (harg3.unread x1))) (ldK i (arg4.view.read (Elt F) (harg4.unread x2))) 3 3 arg14.view _ _ _ _
          · refine orow_read i (ldA (arg2.view.read (Elt F) (harg2.unread x0))) (ldW (arg2.view.read (Elt F) (harg2.unread x0))) (ldK i (arg3.view.read (Elt F) (harg3.unread x1))) (ldK i (arg4.view.read (Elt F) (harg4.unread x2))) 4 arg15.view _ _ _ _ _ _ ?_ ?_ ?_ ?_
            · exact opair_read i (ldA (arg2.view.read (Elt F) (harg2.unread x0))) (ldW (arg2.view.read (Elt F) (harg2.unread x0))) (ldK i (arg3.view.read (Elt F) (harg3.unread x1))) (ldK i (arg4.view.read (Elt F) (harg4.unread x2))) 4 0 arg14.view _ _ _ _
            · exact opair_read i (ldA (arg2.view.read (Elt F) (harg2.unread x0))) (ldW (arg2.view.read (Elt F) (harg2.unread x0))) (ldK i (arg3.view.read (Elt F) (harg3.unread x1))) (ldK i (arg4.view.read (Elt F) (harg4.unread x2))) 4 1 arg14.view _ _ _ _
            · exact opair_read i (ldA (arg2.view.read (Elt F) (harg2.unread x0))) (ldW (arg2.view.read (Elt F) (harg2.unread x0))) (ldK i (arg3.view.read (Elt F) (harg3.unread x1))) (ldK i (arg4.view.read (Elt F) (harg4.unread x2))) 4 2 arg14.view _ _ _ _
            · exact opair_read i (ldA (arg2.view.read (Elt F) (harg2.unread x0))) (ldW (arg2.view.read (Elt F) (harg2.unread x0))) (ldK i (arg3.view.read (Elt F) (harg3.unread x1))) (ldK i (arg4.view.read (Elt F) (harg4.unread x2))) 4 3 arg14.view _ _ _ _
        isplitl [H4]
        · iexists _; isplitr; swap; · iexact H4
          ipureintro
          rw [← qt_of (harg2.read_unread x0)]
          exact QT_read (ldA (arg2.view.read (Elt F) (harg2.unread x0))) (ldW (arg2.view.read (Elt F) (harg2.unread x0))) arg6.view f4
        isplitl [H5]
        · iexists _, _; isplitr; swap; · iexact H5
          ipureintro; rfl
        isplitl [H6]
        · iexists _; isplitr; swap; · iexact H6
          ipureintro
          rw [← mq_of (harg2.read_unread x0)]
          refine MT_read (ldA (arg2.view.read (Elt F) (harg2.unread x0))) arg8.view f6 _ _ _ _ _ ?_ ?_ ?_ ?_ ?_
          · exact mrow_read (ldA (arg2.view.read (Elt F) (harg2.unread x0))) 0 arg16.view _ _
          · exact mrow_read (ldA (arg2.view.read (Elt F) (harg2.unread x0))) 1 arg16.view _ _
          · exact mrow_read (ldA (arg2.view.read (Elt F) (harg2.unread x0))) 2 arg16.view _ _
          · exact mrow_read (ldA (arg2.view.read (Elt F) (harg2.unread x0))) 3 arg16.view _ _
          · exact mrow_read (ldA (arg2.view.read (Elt F) (harg2.unread x0))) 4 arg16.view _ _
        isplitl [H7]
        · iexists _; isplitr; swap; · iexact H7
          ipureintro
          rw [← kt_of i (harg3.read_unread x1)]
          exact whole_read arg9.view f7 _ _ _ rfl
        isplitl [H8]
        · iexists _, _; isplitr; swap; · iexact H8
          ipureintro; rfl
        isplitl [H9]
        · iexists _, _; isplitr; swap; · iexact H9
          ipureintro; rfl
        isplitl [H10]
        · iexists _; isplitr; swap; · iexact H10
          ipureintro
          rw [← vt_of i (harg4.read_unread x2)]
          exact whole_read arg12.view f10 _ _ _ rfl
        isplitl [H11]
        · iexists _, _; isplitr; swap; · iexact H11
          ipureintro; rfl
        isplitl [HS0]
        · iexists _, _; isplitr; swap; · iexact HS0
          ipureintro; rfl
        isplitl [HS1]
        · iexists _, _; isplitr; swap; · iexact HS1
          ipureintro; rfl
        iexists _, _; isplitr; swap; · iexact HS2
        ipureintro; rfl

end Cert.KernelIdeal.Run
-- ==== Proof.Frame.lean ====
module

public import proofs.«01_k».proof.Proof.Run
public import Idealize.ShloMosaic.Lib.Claim

@[expose] public section

/-! The frame of the kernel with five of its results named: what the pipeline leaves in their arrays, block by block. -/

set_option maxRecDepth 16384

noncomputable section

namespace Cert.KernelIdeal.Run

open Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The pipeline's proof data -/

/-- The output windows this certificate FORGETS (the scales and the means accumulated over the grid): nothing reads what the kernel leaves in them, so nothing
    of it is named (Lib/Pipeline/Dat.lean `Dat.toRForget`). -/
def forgets0 : Fin 12 → Bool := fun w => w.val == 5 || w.val == 8 || w.val == 9 || w.val == 11

/-- The proof data of the one pipeline on core `c`: the arrays as the region finds them (`V`); after the body at
    point `t` each input's buffer at its block, the outputs named at what the body leaves and the others, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt (grid0.coords t) (iblk m c 0 t) (iblk m c 1 t) (iblk m c 2 t)
    | ⟨4, _⟩ => qtAt (iblk m c 0 t)
    | ⟨5, h⟩ => Pipeline.Dat.unnamed (cfg := cfg0) ⟨5, h⟩ t
    | ⟨6, _⟩ => mqAt (iblk m c 0 t)
    | ⟨7, _⟩ => ktAt (grid0.coords t) (iblk m c 1 t)
    | ⟨8, h⟩ => Pipeline.Dat.unnamed (cfg := cfg0) ⟨8, h⟩ t
    | ⟨9, h⟩ => Pipeline.Dat.unnamed (cfg := cfg0) ⟨9, h⟩ t
    | ⟨10, _⟩ => vtAt (grid0.coords t) (iblk m c 2 t)
    | ⟨11, h⟩ => Pipeline.Dat.unnamed (cfg := cfg0) ⟨11, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_3 (c : Dev nD) (t : Fin cfg0.N) :
    (dats m 0 c).after 3 t = outAt (grid0.coords t) (iblk m c 0 t) (iblk m c 1 t) (iblk m c 2 t) := by dsimp only [dats]
theorem after0_4 (c : Dev nD) (t : Fin cfg0.N) : (dats m 0 c).after 4 t = qtAt (iblk m c 0 t) := by dsimp only [dats]
theorem after0_6 (c : Dev nD) (t : Fin cfg0.N) : (dats m 0 c).after 6 t = mqAt (iblk m c 0 t) := by dsimp only [dats]
theorem after0_7 (c : Dev nD) (t : Fin cfg0.N) : (dats m 0 c).after 7 t = ktAt (grid0.coords t) (iblk m c 1 t) := by dsimp only [dats]
theorem after0_10 (c : Dev nD) (t : Fin cfg0.N) : (dats m 0 c).after 10 t = vtAt (grid0.coords t) (iblk m c 2 t) := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare ((dats m 0 c).before 10 t d))
    ∗ (∃ d, owns (c : Thread nD τ) (ms0_11 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d)
    ∗ owns (c : Thread nD τ) (ms0_6 t) fullShare ((dats m 0 c).after 6 t)
    ∗ owns (c : Thread nD τ) (ms0_7 t) fullShare ((dats m 0 c).after 7 t)
    ∗ (∃ d, owns (c : Thread nD τ) (ms0_8 t) fullShare d)
    ∗ (∃ d, owns (c : Thread nD τ) (ms0_9 t) fullShare d)
    ∗ owns (c : Thread nD τ) (ms0_10 t) fullShare ((dats m 0 c).after 10 t)
    ∗ (∃ d, owns (c : Thread nD τ) (ms0_11 t) fullShare d))

set_option maxHeartbeats 3600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_6, after0_7, after0_10]
  rw [show (dats m 0 c).Φ t.castSucc = Pipeline.ΦA spec0 c from rfl, PhiA0_eq]
  have hN : t.val < 24 := lt_of_lt_of_eq t.isLt (show cfg0.N = 24 from N_0)
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((bodyRun c (grid0.coords t) _ _ _ _ _ _ _ _ _ _ _ _ _ _ _ _ _ _ _ _ _ _ _ _ _ _ _ _ _ _ (fun h => (hcond0_0 t).mpr (by have := (hcond0_1 t).mp h; omega)) (iblk m c 0 t) (iblk m c 1 t) (iblk m c 2 t)) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  iintro ⟨H0, H1, H2, H3, H4, H5, H6, H7, H8, H9, H10, H11, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    forgotten outputs (windows 5, 8, 9 and 11) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((A_eq m c 0).trans (V_main_arg0 m c)),
      (Pipeline.RDat.FramePost.arr_in h c 1 rfl).trans ((A_eq m c 1).trans (V_main_arg1 m c)),
      (Pipeline.RDat.FramePost.arr_in h c 2 rfl).trans ((A_eq m c 2).trans (V_main_arg2 m c))⟩) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Run
-- ==== Proof.Ref.lean ====
module

public import proofs.«01_k».proof.Proof.Keys
public import proofs.«01_k».proof.Proof.Gen.ReferenceIdeal.Skeleton
public import proofs.«01_k».proof.Proof.RefValue

@[expose] public section

/-! The reference read at an index: its result at head `8 * kv + h` is `Spec.refO` of that head's queries and of
    key head `kv`. -/

set_option maxRecDepth 16384
set_option maxHeartbeats 1000000

noncomputable section

namespace Cert.ReferenceIdeal.Read

open Cert.ReferenceIdeal Cert.ReferenceIdeal.Gen Idealize.ShloMosaic Idealize.ShloMosaic.TcCoe Idealize.ShloMosaic.Pointwise Idealize.SL.Sem
open Cert.Spec
open Cert.KernelIdeal.Body (fold_max absf_eq sel_sle)

theorem named_l2e : (Named.named κ "log2e" 0x3FB8AA3B#32 : Ideal .f32) = l2e := rfl

/-- A maximum over the third and the last of five axes, from minus infinity. -/
theorem max24 {n0 n1 n2 n3 n4 : ℕ} (src : FVec Ideal ⟨5, ![n0, n1, n2, n3, n4]⟩ .f32)
    (h : (⟨5, ![n0, n1, n2, n3, n4]⟩ : Shape).Reduces [2, 4] ⟨3, ![n0, n1, n3]⟩) (hφ : FKind.Formats .f32)
    (hacc : (0xFF800000#32 : BitVec FTy.f32.bits) = FKind.maximumf.neutral .f32 hφ) (a : Fin n0) (b : Fin n1) (c : Fin n3) :
    multiReduction .maximumf [2, 4] ⟨3, ![n0, n1, n3]⟩ src 0xFF800000#32 h hφ hacc (ix3 a b c)
      = ⨆ r : Fin n2, ⨆ d : Fin n4, (src (ix5 a b r c d) : EReal) := by
  rw [multiReduction_maximumf_eq_fold]
  refine eq_of_forall_ge_iff fun z => ?_
  refine (Finset.fold_max_le (β := EReal) z).trans ?_
  rw [iSup_le_iff]
  constructor
  · intro H r
    rw [iSup_le_iff]
    intro d
    refine H.2 _ (Finset.mem_filter.mpr ⟨Finset.mem_univ _, funext fun e => Fin.ext ?_⟩)
    fin_cases e
    · exact h.drop_apply_val_of_eq _ 0 0 (by show (0 : ℕ) < 3; norm_num) (by rfl)
    · exact h.drop_apply_val_of_eq _ 1 1 (by show (1 : ℕ) < 3; norm_num) (by rfl)
    · exact h.drop_apply_val_of_eq _ 2 3 (by show (2 : ℕ) < 3; norm_num) (by rfl)
  · intro H
    refine ⟨le_of_eq_of_le bot_eq bot_le, fun i hi => ?_⟩
    have e := (Finset.mem_filter.mp hi).2
    have e0 : (i 0 : ℕ) = a := (h.drop_apply_val_of_eq i 0 0 (by show (0 : ℕ) < 3; norm_num) (by rfl)).symm.trans (congrArg (fun j => ((j 0 : Fin _) : ℕ)) e)
    have e1 : (i 1 : ℕ) = b := (h.drop_apply_val_of_eq i 1 1 (by show (1 : ℕ) < 3; norm_num) (by rfl)).symm.trans (congrArg (fun j => ((j 1 : Fin _) : ℕ)) e)
    have e3 : (i 3 : ℕ) = c := (h.drop_apply_val_of_eq i 2 3 (by show (2 : ℕ) < 3; norm_num) (by rfl)).symm.trans (congrArg (fun j => ((j 2 : Fin _) : ℕ)) e)
    have ei : i = ix5 a b (i 2) c (i 4) := by
      funext k; apply Fin.ext
      fin_cases k
      · exact e0
      · exact e1
      · rfl
      · exact e3
      · rfl
    rw [ei]
    exact (iSup_le_iff.mp (H (i 2))) (i 4)

theorem grp_row (g : Fin 5) (r : Fin 128) : grp (row g r) = g := Fin.ext (by show (128 * g.val + r.val) / 128 = g.val; omega)
theorem kgrp_key (n : Fin 10) (t : Fin 64) : kgrp (key n t) = n := Fin.ext (by show (64 * n.val + t.val) / 64 = n.val; omega)
theorem row_grp (s : Fin 640) : row (grp s) ⟨s.val % 128, by omega⟩ = s := Fin.ext (by show 128 * (s.val / 128) + s.val % 128 = s.val; omega)
theorem key_kgrp (s : Fin 640) : key (kgrp s) ⟨s.val % 64, by omega⟩ = s := Fin.ext (by show 64 * (s.val / 64) + s.val % 64 = s.val; omega)

/-- Query head `n` of the 64, in batch element `b`; key or value head `kv`. -/
def xN (x : Vec Ideal S3x640x6144 .bf16) (b : Fin 3) (n : Fin 64) (s : Fin 640) (d : Fin 96) : EReal := x (ix3 b s ⟨n.val * 96 + d.val, by omega⟩)
def kN (k : Vec Ideal S3x640x768 .bf16) (b : Fin 3) (kv : Fin 8) (s : Fin 640) (d : Fin 96) : EReal := k (ix3 b s ⟨kv.val * 96 + d.val, by omega⟩)

variable (x : Vec Ideal S3x640x6144 .bf16) (k v : Vec Ideal S3x640x768 .bf16)

/-! ### Queries -/

theorem pay2_apply (b : Fin 3) (g : Fin 5) (r : Fin 128) (n : Fin 64) (d : Fin 96) : k0_pay3 x (ix5 b g r n d) = xN x b n (row g r) d := by
  pointwise [k0_pay3]
  exact congrArg (fun q => x (ix3 b q _)) (Fin.ext (by show g.val * 128 + r.val = 128 * g.val + r.val; omega))
theorem pay3_apply (b : Fin 3) (g : Fin 5) (n : Fin 64) (d : Fin 96) : k0_pay4 x (ix4 b g n d) = MQ (xN x b n) g d := by
  pointwise [k0_pay4, k0_pay3]
  refine congrArg (fun q => Ideal.div q c128) (Finset.sum_congr rfl fun r _ => ?_)
  exact congrArg (fun q => x (ix3 b q _)) (Fin.ext (by show g.val * 128 + r.val = 128 * g.val + r.val; omega))

def q4 (y : FVec Ideal S3x5x128x64x96 .f32) (z : FVec Ideal S3x5x64x96 .bf16) : FVec Ideal S3x5x128x64x96 .f32 :=
  have v7 : FVec Ideal S3x5x64x96 .f32 := extf .f32 z bitsLt_bf16_f32
  have v8 : FVec Ideal S3x5x1x64x96 .f32 := shapeCast S3x5x1x64x96 v7 shapeCasts_S3x5x64x96_S3x5x1x64x96
  have v9 : FVec Ideal S3x5x128x64x96 .f32 := broadcastTo S3x5x128x64x96 v8 broadcasts_S3x5x1x64x96_S3x5x128x64x96
  have v10 : FVec Ideal S3x5x128x64x96 .f32 := subf y v9
  v10
theorem pay4_eq : k0_pay5 x = q4 (k0_pay3 x) (k0_pay4 x) := rfl
theorem pay4_apply (b : Fin 3) (g : Fin 5) (r : Fin 128) (n : Fin 64) (d : Fin 96) : k0_pay5 x (ix5 b g r n d) = QD (xN x b n) (row g r) d := by
  rw [pay4_eq]
  have h2 := pay2_apply x b g r n d
  have h3 := pay3_apply x b g n d
  generalize k0_pay3 x = y at *
  generalize k0_pay4 x = z at *
  pointwise [q4]
  rw [h2, h3, QD, grp_row]

def q5 (v12 : FVec Ideal S3x5x64 .f32) : FVec Ideal S3x5x1x64x1 .f32 :=
  have v13 : FVec Ideal S3x5x1x64x1 .f32 := shapeCast S3x5x1x64x1 v12 shapeCasts_S3x5x64_S3x5x1x64x1
  have cst_4 : Ideal .f32 := Scalar.ofBits .f32 0x00000000#32
  have v14 : FVec Ideal S3x5x1x64x1 .f32 := broadcast S3x5x1x64x1 cst_4
  have v15 : IVec S3x5x1x64x1 1 := cmpf .oeq v13 v14
  have cst_5 : Ideal .f32 := Scalar.ofBits .f32 0x3B124925#32
  have v16 : FVec Ideal S3x5x1x64x1 .f32 := broadcast S3x5x1x64x1 cst_5
  have v17 : FVec Ideal S3x5x1x64x1 .f32 := mulf v13 v16
  have v18 : FVec Ideal S3x5x1x64x1 .f32 := log v17
  have cst_6 : Ideal .f32 := Named.named κ "log2e" 0x3FB8AA3B#32
  have v19 : FVec Ideal S3x5x1x64x1 .f32 := broadcast S3x5x1x64x1 cst_6
  have v20 : FVec Ideal S3x5x1x64x1 .f32 := mulf v18 v19
  have v21 : FVec Ideal S3x5x1x64x1 .f32 := floor v20
  have cst_7 : Ideal .f32 := Scalar.ofBits .f32 0x3F800000#32
  have v22 : FVec Ideal S3x5x1x64x1 .f32 := broadcast S3x5x1x64x1 cst_7
  have v23 : FVec Ideal S3x5x1x64x1 .f32 := addf v21 v22
  have cst_8 : Ideal .f32 := Scalar.ofBits .f32 0x00000000#32
  have v24 : FVec Ideal S3x5x1x64x1 .f32 := broadcast S3x5x1x64x1 cst_8
  have v25 : FVec Ideal S3x5x1x64x1 .f32 := select v15 v24 v23
  v25
theorem pay5_eq : k0_pay6 x = q5 (multiReduction .maximumf [2, 4] S3x5x64 (absf (k0_pay5 x)) 0xFF800000#32 reduces_S3x5x128x64x96_S3x5x64 (.inl rfl) rfl) := rfl
theorem q5_apply (M : FVec Ideal S3x5x64 .f32) (b : Fin 3) (g : Fin 5) (n : Fin 64) : q5 M (ix5 b g 0 n 0) = rE (M (ix3 b g n)) := by
  pointwise [q5]
  rw [named_l2e]; rfl
theorem pay5_apply (b : Fin 3) (g : Fin 5) (n : Fin 64) : k0_pay6 x (ix5 b g 0 n 0) = rE (QA (xN x b n) g) := by
  rw [pay5_eq, q5_apply]
  refine congrArg rE ((max24 (absf (k0_pay5 x)) _ _ _ b g n).trans ?_)
  refine iSup_congr fun r => iSup_congr fun d => ?_
  exact congrArg ab (pay4_apply x b g r n d)

def q6 (e : FVec Ideal S3x5x1x64x1 .f32) : FVec Ideal S3x5x64 .f32 :=
  have v36 : FVec Ideal S3x5x1x64x1 .f32 := exp2 e
  have v37 : FVec Ideal S3x5x64 .f32 := shapeCast S3x5x64 v36 shapeCasts_S3x5x1x64x1_S3x5x64
  v37
theorem pay6_eq : k0_pay8 x = q6 (k0_pay6 x) := rfl
theorem q6_apply (e : FVec Ideal S3x5x1x64x1 .f32) (b : Fin 3) (g : Fin 5) (n : Fin 64) : q6 e (ix3 b g n) = Ideal.exp2 (e (ix5 b g 0 n 0)) := by
  pointwise [q6]
  rfl
theorem pay6_apply (b : Fin 3) (g : Fin 5) (n : Fin 64) : k0_pay8 x (ix3 b g n) = rS (QA (xN x b n) g) := by
  rw [pay6_eq, q6_apply, pay5_apply]; rfl

def q7 (y : FVec Ideal S3x5x128x64x96 .f32) (e : FVec Ideal S3x5x1x64x1 .f32) : FVec Ideal S3x640x8x8x96 .fp8e4m3 :=
  have cst_9 : Ideal .f32 := Scalar.ofBits .f32 0x00000000#32
  have v26 : FVec Ideal S3x5x1x64x1 .f32 := broadcast S3x5x1x64x1 cst_9
  have v27 : FVec Ideal S3x5x1x64x1 .f32 := subf v26 e
  have v28 : FVec Ideal S3x5x1x64x1 .f32 := exp2 v27
  have v29 : FVec Ideal S3x5x128x64x96 .f32 := broadcastTo S3x5x128x64x96 v28 broadcasts_S3x5x1x64x1_S3x5x128x64x96
  have v30 : FVec Ideal S3x5x128x64x96 .f32 := mulf y v29
  have cst_10 : Ideal .f32 := Scalar.ofBits .f32 0xC3E00000#32
  have cst_11 : Ideal .f32 := Scalar.ofBits .f32 0x43E00000#32
  have v31 : FVec Ideal S3x5x128x64x96 .f32 := broadcast S3x5x128x64x96 cst_10
  have v32 : FVec Ideal S3x5x128x64x96 .f32 := maximumf v31 v30
  have v33 : FVec Ideal S3x5x128x64x96 .f32 := broadcast S3x5x128x64x96 cst_11
  have v34 : FVec Ideal S3x5x128x64x96 .f32 := minimumf v33 v32
  have v35 : FVec Ideal S3x5x128x64x96 .fp8e4m3 := truncf .fp8e4m3 v34 bitsLt_fp8e4m3_f32
  have v38 : FVec Ideal S3x640x8x8x96 .fp8e4m3 := shapeCast S3x640x8x8x96 v35 shapeCasts_S3x5x128x64x96_S3x640x8x8x96
  v38
theorem pay7_eq : k0_pay9 x = q7 (k0_pay5 x) (k0_pay6 x) := rfl
/-- Query head `h` of the eight that share key head `kv`. -/
def hd (kv h : Fin 8) : Fin 64 := ⟨kv.val * 8 + h.val, by omega⟩
theorem q7_apply (y : FVec Ideal S3x5x128x64x96 .f32) (e : FVec Ideal S3x5x1x64x1 .f32) (b : Fin 3) (s : Fin 640) (kv h : Fin 8) (d : Fin 96) :
    q7 y e (ix5 b s kv h d) = cl (y (ix5 b (grp s) ⟨s.val % 128, by omega⟩ (hd kv h) d) * Ideal.exp2 (0 - e (ix5 b (grp s) 0 (hd kv h) 0))) := by
  pointwise [q7]
  rfl
theorem pay7_apply (b : Fin 3) (s : Fin 640) (kv h : Fin 8) (d : Fin 96) : k0_pay9 x (ix5 b s kv h d) = QC (xN x b (hd kv h)) s d := by
  rw [pay7_eq, q7_apply, pay4_apply, pay5_apply, row_grp]; rfl

/-! ### Keys -/

theorem pay8_apply (b : Fin 3) (s : Fin 640) (kv : Fin 8) (d : Fin 96) : k0_pay10 k (ix4 b s kv d) = kN k b kv s d := by
  pointwise [k0_pay10]
  rfl
theorem pay9_gen (y : FVec Ideal S3x640x8x96 .f32) (b : Fin 3) (n : Fin 10) (t : Fin 64) (kv : Fin 8) (d : Fin 96) :
    k0_pay11 y (ix5 b n t kv d) = y (ix4 b (key n t) kv d) - Ideal.div (∑ s, y (ix4 b s kv d)) c640 := by
  pointwise [k0_pay11]
  exact congrArg (fun q => y (ix4 b q kv d) - Ideal.div (∑ s, y (ix4 b s kv d)) c640) (Fin.ext (by show n.val * 64 + t.val = 64 * n.val + t.val; omega))
theorem pay9_apply (b : Fin 3) (n : Fin 10) (t : Fin 64) (kv : Fin 8) (d : Fin 96) :
    k0_pay11 (k0_pay10 k) (ix5 b n t kv d) = KD (kN k b kv) (key n t) d := by
  rw [pay9_gen, pay8_apply, Finset.sum_congr rfl fun s _ => pay8_apply k b s kv d]; rfl

def q10 (v52 : FVec Ideal S3x10x8 .f32) : FVec Ideal S3x10x1x8x1 .f32 :=
  have v53 : FVec Ideal S3x10x1x8x1 .f32 := shapeCast S3x10x1x8x1 v52 shapeCasts_S3x10x8_S3x10x1x8x1
  have cst_18 : Ideal .f32 := Scalar.ofBits .f32 0x00000000#32
  have v54 : FVec Ideal S3x10x1x8x1 .f32 := broadcast S3x10x1x8x1 cst_18
  have v55 : IVec S3x10x1x8x1 1 := cmpf .oeq v53 v54
  have cst_19 : Ideal .f32 := Scalar.ofBits .f32 0x3B124925#32
  have v56 : FVec Ideal S3x10x1x8x1 .f32 := broadcast S3x10x1x8x1 cst_19
  have v57 : FVec Ideal S3x10x1x8x1 .f32 := mulf v53 v56
  have v58 : FVec Ideal S3x10x1x8x1 .f32 := log v57
  have cst_20 : Ideal .f32 := Named.named κ "log2e" 0x3FB8AA3B#32
  have v59 : FVec Ideal S3x10x1x8x1 .f32 := broadcast S3x10x1x8x1 cst_20
  have v60 : FVec Ideal S3x10x1x8x1 .f32 := mulf v58 v59
  have v61 : FVec Ideal S3x10x1x8x1 .f32 := floor v60
  have cst_21 : Ideal .f32 := Scalar.ofBits .f32 0x3F800000#32
  have v62 : FVec Ideal S3x10x1x8x1 .f32 := broadcast S3x10x1x8x1 cst_21
  have v63 : FVec Ideal S3x10x1x8x1 .f32 := addf v61 v62
  have cst_22 : Ideal .f32 := Scalar.ofBits .f32 0x00000000#32
  have v64 : FVec Ideal S3x10x1x8x1 .f32 := broadcast S3x10x1x8x1 cst_22
  have v65 : FVec Ideal S3x10x1x8x1 .f32 := select v55 v64 v63
  v65
theorem pay10_eq (y : FVec Ideal S3x640x8x96 .f32) : k0_pay12 y = q10 (multiReduction .maximumf [2, 4] S3x10x8 (absf (k0_pay11 y)) 0xFF800000#32 reduces_S3x10x64x8x96_S3x10x8 (.inl rfl) rfl) := rfl
theorem q10_apply (M : FVec Ideal S3x10x8 .f32) (b : Fin 3) (n : Fin 10) (kv : Fin 8) : q10 M (ix5 b n 0 kv 0) = rE (M (ix3 b n kv)) := by
  pointwise [q10]
  rw [named_l2e]; rfl
theorem pay10_apply (b : Fin 3) (n : Fin 10) (kv : Fin 8) : k0_pay12 (k0_pay10 k) (ix5 b n 0 kv 0) = rE (KA (kN k b kv) n) := by
  rw [pay10_eq, q10_apply]
  refine congrArg rE ((max24 (absf (k0_pay11 (k0_pay10 k))) _ _ _ b n kv).trans ?_)
  refine iSup_congr fun t => iSup_congr fun d => ?_
  exact congrArg ab (pay9_apply k b n t kv d)

def q11 (e : FVec Ideal S3x10x1x8x1 .f32) : FVec Ideal S3x10x8 .f32 :=
  have v76 : FVec Ideal S3x10x1x8x1 .f32 := exp2 e
  have v77 : FVec Ideal S3x10x8 .f32 := shapeCast S3x10x8 v76 shapeCasts_S3x10x1x8x1_S3x10x8
  v77
theorem pay11_eq (y : FVec Ideal S3x640x8x96 .f32) : k0_pay13 y = q11 (k0_pay12 y) := rfl
theorem q11_apply (e : FVec Ideal S3x10x1x8x1 .f32) (b : Fin 3) (n : Fin 10) (kv : Fin 8) : q11 e (ix3 b n kv) = Ideal.exp2 (e (ix5 b n 0 kv 0)) := by
  pointwise [q11]
  rfl
theorem pay11_apply (b : Fin 3) (n : Fin 10) (kv : Fin 8) : k0_pay13 (k0_pay10 k) (ix3 b n kv) = rS (KA (kN k b kv) n) := by
  rw [pay11_eq, q11_apply, pay10_apply]; rfl

def q12 (y : FVec Ideal S3x10x64x8x96 .f32) (e : FVec Ideal S3x10x1x8x1 .f32) : FVec Ideal S3x640x8x96 .fp8e4m3 :=
  have cst_23 : Ideal .f32 := Scalar.ofBits .f32 0x00000000#32
  have v66 : FVec Ideal S3x10x1x8x1 .f32 := broadcast S3x10x1x8x1 cst_23
  have v67 : FVec Ideal S3x10x1x8x1 .f32 := subf v66 e
  have v68 : FVec Ideal S3x10x1x8x1 .f32 := exp2 v67
  have v69 : FVec Ideal S3x10x64x8x96 .f32 := broadcastTo S3x10x64x8x96 v68 broadcasts_S3x10x1x8x1_S3x10x64x8x96
  have v70 : FVec Ideal S3x10x64x8x96 .f32 := mulf y v69
  have cst_24 : Ideal .f32 := Scalar.ofBits .f32 0xC3E00000#32
  have cst_25 : Ideal .f32 := Scalar.ofBits .f32 0x43E00000#32
  have v71 : FVec Ideal S3x10x64x8x96 .f32 := broadcast S3x10x64x8x96 cst_24
  have v72 : FVec Ideal S3x10x64x8x96 .f32 := maximumf v71 v70
  have v73 : FVec Ideal S3x10x64x8x96 .f32 := broadcast S3x10x64x8x96 cst_25
  have v74 : FVec Ideal S3x10x64x8x96 .f32 := minimumf v73 v72
  have v75 : FVec Ideal S3x10x64x8x96 .fp8e4m3 := truncf .fp8e4m3 v74 bitsLt_fp8e4m3_f32
  have v78 : FVec Ideal S3x640x8x96 .fp8e4m3 := shapeCast S3x640x8x96 v75 shapeCasts_S3x10x64x8x96_S3x640x8x96
  v78
theorem pay12_eq (y : FVec Ideal S3x640x8x96 .f32) : k0_pay14 y = q12 (k0_pay11 y) (k0_pay12 y) := rfl
theorem q12_apply (y : FVec Ideal S3x10x64x8x96 .f32) (e : FVec Ideal S3x10x1x8x1 .f32) (b : Fin 3) (s : Fin 640) (kv : Fin 8) (d : Fin 96) :
    q12 y e (ix4 b s kv d) = cl (y (ix5 b (kgrp s) ⟨s.val % 64, by omega⟩ kv d) * Ideal.exp2 (0 - e (ix5 b (kgrp s) 0 kv 0))) := by
  pointwise [q12]
  rfl
theorem pay12_apply (b : Fin 3) (s : Fin 640) (kv : Fin 8) (d : Fin 96) : k0_pay14 (k0_pay10 k) (ix4 b s kv d) = KC (kN k b kv) s d := by
  rw [pay12_eq, q12_apply, pay9_apply, pay10_apply, key_kgrp]; rfl

/-! ### Values -/

theorem pay13_apply (b : Fin 3) (s : Fin 640) (kv : Fin 8) (d : Fin 96) : k0_pay15 v (ix4 b s kv d) = kN v b kv s d := by
  pointwise [k0_pay15]
  rfl
def q14 (y : FVec Ideal S3x640x8x96 .f32) : FVec Ideal S3x1x8x96 .f32 :=
  have v82 : FVec Ideal S3x640x8x96 .f32 := absf y
  have v83 : FVec Ideal S3x8x96 .f32 := multiReduction .maximumf [1] S3x8x96 v82 0xFF800000#32 reduces_S3x640x8x96_S3x8x96 (.inl rfl) rfl
  have v84 : FVec Ideal S3x1x8x96 .f32 := shapeCast S3x1x8x96 v83 shapeCasts_S3x8x96_S3x1x8x96
  v84
theorem pay14_eq : k0_pay16 v = q14 (k0_pay15 v) := rfl
theorem q14_apply (y : FVec Ideal S3x640x8x96 .f32) (b : Fin 3) (kv : Fin 8) (d : Fin 96) : q14 y (ix4 b 0 kv d) = ⨆ s : Fin 640, ab (y (ix4 b s kv d)) := by
  pointwise [q14]
  exact fold_max _
theorem pay14_apply (b : Fin 3) (kv : Fin 8) (d : Fin 96) : k0_pay16 v (ix4 b 0 kv d) = VA (kN v b kv) d := by
  rw [pay14_eq, q14_apply]
  exact iSup_congr fun s => congrArg ab (pay13_apply v b s kv d)

def q16 (v84 : FVec Ideal S3x1x8x96 .f32) : FVec Ideal S3x1x8x96 .f32 :=
  k0_pay18 v84 (cmpf .oeq v84 (broadcast S3x1x8x96 (Scalar.ofBits .f32 0x00000000#32)))
theorem pay16_eq : k0_pay18 (k0_pay16 v) (k0_pay17 v) = q16 (k0_pay16 v) := rfl
theorem q16_apply (M : FVec Ideal S3x1x8x96 .f32) (b : Fin 3) (kv : Fin 8) (d : Fin 96) : q16 M (ix4 b 0 kv d) = rE (M (ix4 b 0 kv d)) := by
  pointwise [q16, k0_pay18]
  rw [named_l2e]; rfl
theorem pay16_apply (b : Fin 3) (kv : Fin 8) (d : Fin 96) : k0_pay18 (k0_pay16 v) (k0_pay17 v) (ix4 b 0 kv d) = rE (VA (kN v b kv) d) := by
  rw [pay16_eq, q16_apply, pay14_apply]

def q17 (v81 : FVec Ideal S3x640x8x96 .f32) (e : FVec Ideal S3x1x8x96 .f32) : FVec Ideal S3x640x8x96 .fp8e4m3 :=
  have cst_35 : Ideal .f32 := Scalar.ofBits .f32 0x00000000#32
  have v97 : FVec Ideal S3x1x8x96 .f32 := broadcast S3x1x8x96 cst_35
  have v98 : FVec Ideal S3x1x8x96 .f32 := subf v97 e
  have v99 : FVec Ideal S3x1x8x96 .f32 := exp2 v98
  have v100 : FVec Ideal S3x640x8x96 .f32 := broadcastTo S3x640x8x96 v99 broadcasts_S3x1x8x96_S3x640x8x96
  have v101 : FVec Ideal S3x640x8x96 .f32 := mulf v81 v100
  have cst_36 : Ideal .f32 := Scalar.ofBits .f32 0xC3E00000#32
  have cst_37 : Ideal .f32 := Scalar.ofBits .f32 0x43E00000#32
  have v102 : FVec Ideal S3x640x8x96 .f32 := broadcast S3x640x8x96 cst_36
  have v103 : FVec Ideal S3x640x8x96 .f32 := maximumf v102 v101
  have v104 : FVec Ideal S3x640x8x96 .f32 := broadcast S3x640x8x96 cst_37
  have v105 : FVec Ideal S3x640x8x96 .f32 := minimumf v104 v103
  have v106 : FVec Ideal S3x640x8x96 .fp8e4m3 := truncf .fp8e4m3 v105 bitsLt_fp8e4m3_f32
  v106
theorem pay17_eq (y : FVec Ideal S3x640x8x96 .f32) (M : FVec Ideal S3x1x8x96 .f32) (c) : k0_pay19 y M c = q17 y (k0_pay18 M c) := rfl
theorem q17_apply (y : FVec Ideal S3x640x8x96 .f32) (e : FVec Ideal S3x1x8x96 .f32) (b : Fin 3) (s : Fin 640) (kv : Fin 8) (d : Fin 96) :
    q17 y e (ix4 b s kv d) = cl (y (ix4 b s kv d) * Ideal.exp2 (0 - e (ix4 b 0 kv d))) := by
  pointwise [q17]
  rfl
theorem pay17_apply (b : Fin 3) (s : Fin 640) (kv : Fin 8) (d : Fin 96) :
    k0_pay19 (k0_pay15 v) (k0_pay16 v) (k0_pay17 v) (ix4 b s kv d) = VC (kN v b kv) s d := by
  rw [pay17_eq, q17_apply, pay13_apply, pay16_apply]; rfl

def q18 (e : FVec Ideal S3x1x8x96 .f32) : FVec Ideal S3x8x96 .f32 :=
  have v107 : FVec Ideal S3x1x8x96 .f32 := exp2 e
  have v108 : FVec Ideal S3x8x96 .f32 := shapeCast S3x8x96 v107 shapeCasts_S3x1x8x96_S3x8x96
  v108
theorem pay18_eq (M : FVec Ideal S3x1x8x96 .f32) (c) : k0_pay20 M c = q18 (k0_pay18 M c) := rfl
theorem q18_apply (e : FVec Ideal S3x1x8x96 .f32) (b : Fin 3) (kv : Fin 8) (d : Fin 96) : q18 e (ix3 b kv d) = Ideal.exp2 (e (ix4 b 0 kv d)) := by
  pointwise [q18]
  rfl
theorem pay18_apply (b : Fin 3) (kv : Fin 8) (d : Fin 96) : k0_pay20 (k0_pay16 v) (k0_pay17 v) (ix3 b kv d) = rS (VA (kN v b kv) d) := by
  rw [pay18_eq, q18_apply, pay16_apply]; rfl

/-! ### Scores and result -/

theorem pay19_gen (v6 v37 v38 v77 v78) (b : Fin 3) (kv h : Fin 8) (s t : Fin 640) : k0_pay21 (F := Ideal) v6 v37 v38 v77 v78 (ix5 b kv h s t)
    = v77 (ix3 b (kgrp t) kv) * (v37 (ix3 b (grp s) (hd kv h)) * ∑ d, v78 (ix4 b t kv d) * v38 (ix5 b s kv h d)
        + ∑ d, v78 (ix4 b t kv d) * v6 (ix4 b (grp s) (hd kv h) d)) * scale := by
  pointwise [k0_pay21]
  rfl
theorem pay19_apply (b : Fin 3) (kv h : Fin 8) (s t : Fin 640) :
    k0_pay21 (k0_pay4 x) (k0_pay8 x) (k0_pay9 x) (k0_pay13 (k0_pay10 k)) (k0_pay14 (k0_pay10 k)) (ix5 b kv h s t) = refS (xN x b (hd kv h)) (kN k b kv) s t := by
  rw [pay19_gen, pay11_apply, pay6_apply,
    Finset.sum_congr rfl fun d _ => congrArg₂ (fun p q : EReal => p * q) (pay12_apply k b t kv d) (pay7_apply x b s kv h d),
    Finset.sum_congr rfl fun d _ => congrArg₂ (fun p q : EReal => p * q) (pay12_apply k b t kv d) (pay3_apply x b (grp s) (hd kv h) d)]
  rfl

/-- The last steps at an index, over the scores, the value codes and the value scales of one head. -/
theorem pay1_gen (v106 : FVec Ideal S3x640x8x96 .fp8e4m3) (v108 : FVec Ideal S3x8x96 .f32) (v135 : FVec Ideal S3x8x8x640x640 .f32)
    (b : Fin 3) (kv h : Fin 8) (s : Fin 640) (d : Fin 96) (X K V : Fin 640 → Fin 96 → EReal)
    (hs : ∀ t, v135 (ix5 b kv h s t) = refS X K s t) (hc : ∀ t, v106 (ix4 b t kv d) = VC V t d) (hv : v108 (ix3 b kv d) = rS (VA V d)) :
    k0_pay22 (F := Ideal) v106 v108 v135 (iota .tc S1x640 32 [1] iota_S1x640_d1_w32) (ix3 b s ⟨768 * kv.val + 96 * h.val + d.val, by omega⟩) = refO X K V s d := by
  pointwise [k0_pay22]
  have hm : ∀ t : Fin 640, Scalar.select (IntOp.cmpi CmpIPredicate.sle (BitVec.ofNat 32 t.val) (BitVec.ofNat 32 s.val))
      (v135 (ix5 b kv h s t)) (Ideal.ofBits FTy.f32 0xFF800000#32) = refM X K s t := by
    intro t
    rw [sel_sle _ _ (by omega) (by omega), hs t, bot_eq]
    rfl
  simp only [hm]
  rw [fold_max]
  exact congrArg₂ Ideal.div (congrArg₂ (fun p q : EReal => p * i256 * q)
    (Finset.sum_congr rfl fun t _ => congrArg (fun q : EReal => clp (refP X K s t * c256) * q) (hc t)) hv) rfl

theorem pay24_eq : k0_pay24 x k v = k0_pay4 x := by
  unfold k0_pay24; rw [View.ld_unit_zero (S := S3x640x6144) Value.hz0 _ x]
theorem pay25_eq : k0_pay25 x k v = k0_pay10 k := by
  unfold k0_pay25; rw [View.ld_unit_zero (S := S3x640x768) Value.hz1 _ k]
theorem pay26_eq : k0_pay26 x k v = k0_pay14 (k0_pay10 k) := by
  unfold k0_pay26; rw [pay25_eq]
theorem pay27_eq : k0_pay27 x k v = k0_pay16 v := by
  unfold k0_pay27; rw [View.ld_unit_zero (S := S3x640x768) Value.hz1 _ v]
theorem pay28_eq : k0_pay28 x k v = k0_pay17 v := by
  unfold k0_pay28; rw [View.ld_unit_zero (S := S3x640x768) Value.hz1 _ v]
theorem pay29_eq : k0_pay29 x k v = k0_pay19 (k0_pay15 v) (k0_pay16 v) (k0_pay17 v) := by
  unfold k0_pay29; rw [View.ld_unit_zero (S := S3x640x768) Value.hz1 _ v, pay27_eq, pay28_eq]

theorem G3_apply (b : Fin 3) (kv h : Fin 8) (s : Fin 640) (d : Fin 96) :
    Value.G3 x k v (ix3 b s ⟨768 * kv.val + 96 * h.val + d.val, by omega⟩) = refO (xN x b (hd kv h)) (kN k b kv) (kN v b kv) s d := by
  show k0_pay22 _ _ _ _ _ = _
  rw [pay24_eq, pay25_eq, pay26_eq, pay27_eq, pay28_eq, pay29_eq]
  exact pay1_gen _ _ _ b kv h s d _ _ _ (fun t => pay19_apply x k b kv h s t) (fun t => pay17_apply v b t kv d) (pay18_apply v b kv d)

/-! ### The other results: codes and means -/

theorem pay23_gen (c : FVec Ideal S3x5x128x64x96 .fp8e4m3) (b : Fin 3) (n : Fin 64) (d : Fin 96) (s : Fin 640) :
    k0_pay23 c (ix4 b n d s) = c (ix5 b (grp s) ⟨s.val % 128, by omega⟩ n d) := by
  pointwise [k0_pay23]
  rfl
/-- Codes of the queries, before they are laid out by heads. -/
theorem pay9_view (b : Fin 3) (s : Fin 640) (kv h : Fin 8) (d : Fin 96) :
    k0_pay9 x (ix5 b s kv h d) = k0_pay7 x (ix5 b (grp s) ⟨s.val % 128, by omega⟩ (hd kv h) d) := by
  rw [k0_pay9]
  generalize k0_pay7 x = c
  pointwise []
  rfl
theorem G4_apply (b : Fin 3) (kv h : Fin 8) (d : Fin 96) (s : Fin 640) : Value.G4 x k v (ix4 b (hd kv h) d s) = QC (xN x b (hd kv h)) s d := by
  show k0_pay23 (k0_pay7 x) _ = _
  rw [pay23_gen, ← pay9_view, pay7_apply]
theorem G5_apply (b : Fin 3) (g : Fin 5) (n : Fin 64) (d : Fin 96) : Value.G5 x k v (ix4 b g n d) = MQ (xN x b n) g d := by
  show k0_pay24 x k v _ = _
  rw [pay24_eq, pay3_apply]
theorem pay1_view (c : FVec Ideal S3x640x8x96 .fp8e4m3) (b : Fin 3) (kv : Fin 8) (d : Fin 96) (s : Fin 640) : k0_pay1 c (ix4 b kv d s) = c (ix4 b s kv d) := by
  pointwise [k0_pay1]
theorem pay2_view (c : FVec Ideal S3x640x8x96 .fp8e4m3) (b : Fin 3) (kv : Fin 8) (d : Fin 96) (s : Fin 640) : k0_pay2 c (ix4 b kv d s) = c (ix4 b s kv d) := by
  pointwise [k0_pay2]
theorem G6_apply (b : Fin 3) (kv : Fin 8) (d : Fin 96) (s : Fin 640) : Value.G6 x k v (ix4 b kv d s) = KC (kN k b kv) s d := by
  show k0_pay1 (k0_pay26 x k v) _ = _
  rw [pay1_view, pay26_eq, pay12_apply]
theorem G7_apply (b : Fin 3) (kv : Fin 8) (d : Fin 96) (s : Fin 640) : Value.G7 x k v (ix4 b kv d s) = VC (kN v b kv) s d := by
  show k0_pay2 (k0_pay29 x k v) _ = _
  rw [pay2_view, pay29_eq, pay17_apply]

end Cert.ReferenceIdeal.Read
-- ==== Proof.Final.lean ====
module

public import proofs.«01_k».proof.Proof.Frame
public import proofs.«01_k».proof.Proof.Blocks
public import proofs.«01_k».proof.Proof.Ref

@[expose] public section

/-! The kernel's arrays of the result, the codes and the query means after the run are the reference's; the result's, when
every head of the queries is `Spec.Tame`. -/

set_option maxRecDepth 16384

noncomputable section

namespace Cert.KernelIdeal.Final

open Cert.KernelIdeal Cert.KernelIdeal.Gen Cert.KernelIdeal.Body Cert.KernelIdeal.Run
open Idealize.ShloMosaic Idealize.ShloMosaic.TcCoe Idealize.ShloMosaic.Pointwise Idealize.SL.Sem
open Cert.Spec
open Cert.ReferenceIdeal.Read (xN kN hd G3_apply G4_apply G5_apply G6_apply G7_apply)
open Cert.ReferenceIdeal.Value (G3 G4 G5 G6 G7)

variable (m : (ℓ : Loc nD τ sig) → Buf (Elt Ideal) ℓ)

/-- The batch entry of a grid point. -/
def bAt (t : Fin cfg0.N) : Fin 3 := grid0.coords t 0
/-- The key head of a grid point. -/
def kvAt (t : Fin cfg0.N) : Fin 8 := grid0.coords t 1

theorem coords_at : ∀ t : Fin cfg0.N, (bAt t).val = t.val / 8 ∧ (kvAt t).val = t.val % 8 :=
  (by decide +kernel : ∀ t : Fin grid0.N, _)
theorem index0 : ∀ t : Fin cfg0.N, win0_0.index t (0 : Fin 3) = (bAt t).val ∧ win0_0.index t (1 : Fin 3) = 0 ∧ win0_0.index t (2 : Fin 3) = (kvAt t).val :=
  (by decide +kernel : ∀ t : Fin grid0.N, _)
theorem index1 : ∀ t : Fin cfg0.N, win0_1.index t (0 : Fin 3) = (bAt t).val ∧ win0_1.index t (1 : Fin 3) = 0 ∧ win0_1.index t (2 : Fin 3) = 0 :=
  (by decide +kernel : ∀ t : Fin grid0.N, _)
theorem index2 : ∀ t : Fin cfg0.N, win0_2.index t (0 : Fin 3) = (bAt t).val ∧ win0_2.index t (1 : Fin 3) = 0 ∧ win0_2.index t (2 : Fin 3) = 0 :=
  (by decide +kernel : ∀ t : Fin grid0.N, _)
theorem index3 : ∀ t : Fin cfg0.N, win0_3.index t (0 : Fin 3) = (bAt t).val ∧ win0_3.index t (1 : Fin 3) = 0 ∧ win0_3.index t (2 : Fin 3) = (kvAt t).val :=
  (by decide +kernel : ∀ t : Fin grid0.N, _)

/-! ### Where a block's elements lie in its array -/

theorem emb0 (t : Fin cfg0.N) (s : Fin 640) (c : Fin 768) :
    ((cfg0.win 0).blk t).view.emb (ix3 (0 : Fin 1) s c) = ix3 (bAt t) s (⟨768 * (kvAt t).val + c.val, by omega⟩ : Fin 6144) := by
  obtain ⟨e0, e1, e2⟩ := index0 t
  funext a; apply Fin.ext
  match a with
  | ⟨0, _⟩ => show win0_0.index t (0 : Fin 3) * 1 + 1 * 0 = (bAt t).val; omega
  | ⟨1, _⟩ => show win0_0.index t (1 : Fin 3) * 640 + 1 * s.val = s.val; omega
  | ⟨2, _⟩ => show win0_0.index t (2 : Fin 3) * 768 + 1 * c.val = 768 * (kvAt t).val + c.val; omega
theorem emb1 (t : Fin cfg0.N) (s : Fin 640) (c : Fin 768) :
    ((cfg0.win 1).blk t).view.emb (ix3 (0 : Fin 1) s c) = ix3 (bAt t) s c := by
  obtain ⟨e0, e1, e2⟩ := index1 t
  funext a; apply Fin.ext
  match a with
  | ⟨0, _⟩ => show win0_1.index t (0 : Fin 3) * 1 + 1 * 0 = (bAt t).val; omega
  | ⟨1, _⟩ => show win0_1.index t (1 : Fin 3) * 640 + 1 * s.val = s.val; omega
  | ⟨2, _⟩ => show win0_1.index t (2 : Fin 3) * 768 + 1 * c.val = c.val; omega
theorem emb2 (t : Fin cfg0.N) (s : Fin 640) (c : Fin 768) :
    ((cfg0.win 2).blk t).view.emb (ix3 (0 : Fin 1) s c) = ix3 (bAt t) s c := by
  obtain ⟨e0, e1, e2⟩ := index2 t
  funext a; apply Fin.ext
  match a with
  | ⟨0, _⟩ => show win0_2.index t (0 : Fin 3) * 1 + 1 * 0 = (bAt t).val; omega
  | ⟨1, _⟩ => show win0_2.index t (1 : Fin 3) * 640 + 1 * s.val = s.val; omega
  | ⟨2, _⟩ => show win0_2.index t (2 : Fin 3) * 768 + 1 * c.val = c.val; omega
theorem emb3 (t : Fin cfg0.N) (s : Fin 640) (c : Fin 768) :
    ((cfg0.win 3).blk t).view.emb (ix3 (0 : Fin 1) s c) = ix3 (bAt t) s (⟨768 * (kvAt t).val + c.val, by omega⟩ : Fin 6144) := by
  obtain ⟨e0, e1, e2⟩ := index3 t
  funext a; apply Fin.ext
  match a with
  | ⟨0, _⟩ => show win0_3.index t (0 : Fin 3) * 1 + 1 * 0 = (bAt t).val; omega
  | ⟨1, _⟩ => show win0_3.index t (1 : Fin 3) * 640 + 1 * s.val = s.val; omega
  | ⟨2, _⟩ => show win0_3.index t (2 : Fin 3) * 768 + 1 * c.val = 768 * (kvAt t).val + c.val; omega

/-! ### The heads a grid point sees, as heads of the arrays -/

theorem qHead_eq (c : Dev nD) (t : Fin cfg0.N) (h : Fin 8) : qHead (iblk m c 0 t) h = xN (V m c main_arg0) (bAt t) (hd (kvAt t) h) := by
  funext s d
  refine (congrArg (V m c main_arg0) (emb0 t s ⟨96 * h.val + d.val, by omega⟩)).trans (congrArg (fun q => V m c main_arg0 (ix3 (bAt t) s q)) (Fin.ext ?_))
  show 768 * (kvAt t).val + (96 * h.val + d.val) = ((kvAt t).val * 8 + h.val) * 96 + d.val
  omega
theorem kHead1_eq (c : Dev nD) (t : Fin cfg0.N) : kHead (kvAt t) (iblk m c 1 t) = kN (V m c main_arg1) (bAt t) (kvAt t) := by
  funext s d
  refine (congrArg (V m c main_arg1) (emb1 t s ⟨96 * (kvAt t).val + d.val, by omega⟩)).trans (congrArg (fun q => V m c main_arg1 (ix3 (bAt t) s q)) (Fin.ext ?_))
  show 96 * (kvAt t).val + d.val = (kvAt t).val * 96 + d.val
  omega
theorem kHead2_eq (c : Dev nD) (t : Fin cfg0.N) : kHead (kvAt t) (iblk m c 2 t) = kN (V m c main_arg2) (bAt t) (kvAt t) := by
  funext s d
  refine (congrArg (V m c main_arg2) (emb2 t s ⟨96 * (kvAt t).val + d.val, by omega⟩)).trans (congrArg (fun q => V m c main_arg2 (ix3 (bAt t) s q)) (Fin.ext ?_))
  show 96 * (kvAt t).val + d.val = (kvAt t).val * 96 + d.val
  omega

/-! ### The result's array after the run -/

theorem ix_cols (j : S1x640x768.Idx) : ∃ (s : Fin 640) (h : Fin 8) (d : Fin 96), j = ix3 (0 : Fin 1) s (⟨96 * h.val + d.val, by omega⟩ : Fin 768) := by
  have h0 : (j 0).val < 1 := (j 0).isLt
  have h2 : (j 2).val < 768 := (j 2).isLt
  refine ⟨j 1, ⟨(j 2).val / 96, by omega⟩, ⟨(j 2).val % 96, by omega⟩, ?_⟩
  funext a; apply Fin.ext
  match a with
  | ⟨0, _⟩ => show (j 0).val = 0; omega
  | ⟨1, _⟩ => rfl
  | ⟨2, _⟩ => show (j 2).val = 96 * ((j 2).val / 96) + (j 2).val % 96; omega

/-- A block that agrees with an array at each element is that array's block. -/
theorem cut3_of (t : Fin cfg0.N) (X : Vec Ideal S1x640x768 .bf16) (Y : Vec Ideal S3x640x6144 .bf16)
    (H : ∀ (s : Fin 640) (h : Fin 8) (d : Fin 96), X (ix3 0 s (⟨96 * h.val + d.val, by omega⟩ : Fin 768))
      = Y (ix3 (bAt t) s (⟨768 * (kvAt t).val + 96 * h.val + d.val, by omega⟩ : Fin 6144))) :
    (cfg0.win 3).cut (grid0.coords t) X = ((cfg0.win 3).blk t).view.read (Elt Ideal) Y := by
  funext j
  show X j = Y (((cfg0.win 3).blk t).view.emb j)
  obtain ⟨s, h, d, rfl⟩ := ix_cols j
  rw [emb3, H]
  refine congrArg (fun q => Y (ix3 (bAt t) s q)) (Fin.ext ?_)
  show 768 * (kvAt t).val + 96 * h.val + d.val = 768 * (kvAt t).val + (96 * h.val + d.val)
  omega

theorem outAt_eq_G3 (c : Dev nD) (hT : ∀ b n, Tame (xN (V m c main_arg0) b n)) (t : Fin cfg0.N) (s : Fin 640) (h : Fin 8) (d : Fin 96) :
    outAt (grid0.coords t) (iblk m c 0 t) (iblk m c 1 t) (iblk m c 2 t) (ix3 0 s (⟨96 * h.val + d.val, by omega⟩ : Fin 768))
      = G3 (V m c main_arg0) (V m c main_arg1) (V m c main_arg2) (ix3 (bAt t) s (⟨768 * (kvAt t).val + 96 * h.val + d.val, by omega⟩ : Fin 6144)) := by
  refine (outAt_apply _ _ _ _ s h d).trans (Eq.trans ?_ (G3_apply _ _ _ (bAt t) (kvAt t) h s d).symm)
  rw [← qHead_eq, ← kHead1_eq, ← kHead2_eq]
  exact kerO_eq_refO _ _ _ (by rw [qHead_eq]; exact hT _ _) s d

/-- What a grid point leaves is its block of the reference's result. -/
theorem flushed3_eq (c : Dev nD) (hT : ∀ b n, Tame (xN (V m c main_arg0) b n)) (t : Fin cfg0.N) :
    (dats m 0 c).flushed 3 t = ((cfg0.win 3).blk t).view.read (Elt Ideal) (G3 (V m c main_arg0) (V m c main_arg1) (V m c main_arg2)) := by
  show (cfg0.win 3).cut (grid0.coords t) ((dats m 0 c).after 3 t) = _
  rw [after0_3]
  exact cut3_of t _ _ fun s h d => outAt_eq_G3 m c hT t s h d

/-- Every element of the result is in some grid point's block. -/
theorem covered3 (i : S3x640x6144.Idx) : ∃ t : Fin cfg0.N, (cfg0.win 3).flush t = true ∧ i ∈ ((cfg0.win 3).blk t).view.set := by
  have h0 : (i 0).val < 3 := (i 0).isLt
  have h1 : (i 1).val < 640 := (i 1).isLt
  have h2 : (i 2).val < 6144 := (i 2).isLt
  have hN : cfg0.N = 24 := N_0
  obtain ⟨t, ht⟩ : ∃ t : Fin cfg0.N, t.val = 8 * (i 0).val + (i 2).val / 768 := ⟨⟨8 * (i 0).val + (i 2).val / 768, by omega⟩, rfl⟩
  obtain ⟨e0, e1⟩ := coords_at t
  refine ⟨t, flush0_3 t, ?_⟩
  have h := ((cfg0.win 3).blk t).view.emb_mem_set (ix3 (0 : Fin 1) (⟨(i 1).val, h1⟩ : Fin 640) (⟨(i 2).val % 768, by omega⟩ : Fin 768))
  rw [emb3] at h
  have e : i = ix3 (bAt t) (⟨(i 1).val, h1⟩ : Fin 640) (⟨768 * (kvAt t).val + (i 2).val % 768, by omega⟩ : Fin 6144) := by
    funext a; apply Fin.ext
    match a with
    | ⟨0, _⟩ => show (i 0).val = (bAt t).val; omega
    | ⟨1, _⟩ => rfl
    | ⟨2, _⟩ => show (i 2).val = 768 * (kvAt t).val + (i 2).val % 768; omega
  rw [e]
  exact h

theorem final3 (c : Dev nD) (hT : ∀ b n, Tame (xN (m ((c : Thread nD τ).loc main_arg0)) b n)) :
    (dats m 0 c).arrAt 3 cfg0.N = G3 (m ((c : Thread nD τ).loc main_arg0)) (m ((c : Thread nD τ).loc main_arg1)) (m ((c : Thread nD τ).loc main_arg2)) := by
  have hT' : ∀ b n, Tame (xN (V m c main_arg0) b n) := by rw [V_main_arg0]; exact hT
  exact ((dats m 0 c).arrAt_eq_of_cover 3 (G3 (V m c main_arg0) (V m c main_arg1) (V m c main_arg2)) (fun t _ => flushed3_eq m c hT' t) covered3).trans
    (by rw [V_main_arg0, V_main_arg1, V_main_arg2])

/-! ### The codes and the query means -/

theorem index4 : ∀ t : Fin cfg0.N, win0_4.index t (0 : Fin 4) = (bAt t).val ∧ win0_4.index t (1 : Fin 4) = (kvAt t).val ∧ win0_4.index t (2 : Fin 4) = 0
    ∧ win0_4.index t (3 : Fin 4) = 0 := (by decide +kernel : ∀ t : Fin grid0.N, _)
theorem index6 : ∀ t : Fin cfg0.N, win0_6.index t (0 : Fin 4) = (bAt t).val ∧ win0_6.index t (1 : Fin 4) = 0 ∧ win0_6.index t (2 : Fin 4) = (kvAt t).val
    ∧ win0_6.index t (3 : Fin 4) = 0 := (by decide +kernel : ∀ t : Fin grid0.N, _)
theorem index7 : ∀ t : Fin cfg0.N, win0_7.index t (0 : Fin 4) = (bAt t).val ∧ win0_7.index t (1 : Fin 4) = (kvAt t).val ∧ win0_7.index t (2 : Fin 4) = 0
    ∧ win0_7.index t (3 : Fin 4) = 0 := (by decide +kernel : ∀ t : Fin grid0.N, _)
theorem index10 : ∀ t : Fin cfg0.N, win0_10.index t (0 : Fin 4) = (bAt t).val ∧ win0_10.index t (1 : Fin 4) = (kvAt t).val ∧ win0_10.index t (2 : Fin 4) = 0
    ∧ win0_10.index t (3 : Fin 4) = 0 := (by decide +kernel : ∀ t : Fin grid0.N, _)

theorem emb4 (t : Fin cfg0.N) (h : Fin 8) (d : Fin 96) (s : Fin 640) :
    ((cfg0.win 4).blk t).view.emb (ix4 (0 : Fin 1) h d s) = ix4 (bAt t) (hd (kvAt t) h) d s := by
  obtain ⟨e0, e1, e2, e3⟩ := index4 t
  funext a; apply Fin.ext
  match a with
  | ⟨0, _⟩ => show win0_4.index t (0 : Fin 4) * 1 + 1 * 0 = (bAt t).val; omega
  | ⟨1, _⟩ => show win0_4.index t (1 : Fin 4) * 8 + 1 * h.val = (kvAt t).val * 8 + h.val; omega
  | ⟨2, _⟩ => show win0_4.index t (2 : Fin 4) * 96 + 1 * d.val = d.val; omega
  | ⟨3, _⟩ => show win0_4.index t (3 : Fin 4) * 640 + 1 * s.val = s.val; omega
theorem emb6 (t : Fin cfg0.N) (g : Fin 5) (h : Fin 8) (d : Fin 96) :
    ((cfg0.win 6).blk t).view.emb (ix4 (0 : Fin 1) g h d) = ix4 (bAt t) g (hd (kvAt t) h) d := by
  obtain ⟨e0, e1, e2, e3⟩ := index6 t
  funext a; apply Fin.ext
  match a with
  | ⟨0, _⟩ => show win0_6.index t (0 : Fin 4) * 1 + 1 * 0 = (bAt t).val; omega
  | ⟨1, _⟩ => show win0_6.index t (1 : Fin 4) * 5 + 1 * g.val = g.val; omega
  | ⟨2, _⟩ => show win0_6.index t (2 : Fin 4) * 8 + 1 * h.val = (kvAt t).val * 8 + h.val; omega
  | ⟨3, _⟩ => show win0_6.index t (3 : Fin 4) * 96 + 1 * d.val = d.val; omega
theorem emb7 (t : Fin cfg0.N) (d : Fin 96) (s : Fin 640) :
    ((cfg0.win 7).blk t).view.emb (ix4 (0 : Fin 1) (0 : Fin 1) d s) = ix4 (bAt t) (kvAt t) d s := by
  obtain ⟨e0, e1, e2, e3⟩ := index7 t
  funext a; apply Fin.ext
  match a with
  | ⟨0, _⟩ => show win0_7.index t (0 : Fin 4) * 1 + 1 * 0 = (bAt t).val; omega
  | ⟨1, _⟩ => show win0_7.index t (1 : Fin 4) * 1 + 1 * 0 = (kvAt t).val; omega
  | ⟨2, _⟩ => show win0_7.index t (2 : Fin 4) * 96 + 1 * d.val = d.val; omega
  | ⟨3, _⟩ => show win0_7.index t (3 : Fin 4) * 640 + 1 * s.val = s.val; omega
theorem emb10 (t : Fin cfg0.N) (d : Fin 96) (s : Fin 640) :
    ((cfg0.win 10).blk t).view.emb (ix4 (0 : Fin 1) (0 : Fin 1) d s) = ix4 (bAt t) (kvAt t) d s := by
  obtain ⟨e0, e1, e2, e3⟩ := index10 t
  funext a; apply Fin.ext
  match a with
  | ⟨0, _⟩ => show win0_10.index t (0 : Fin 4) * 1 + 1 * 0 = (bAt t).val; omega
  | ⟨1, _⟩ => show win0_10.index t (1 : Fin 4) * 1 + 1 * 0 = (kvAt t).val; omega
  | ⟨2, _⟩ => show win0_10.index t (2 : Fin 4) * 96 + 1 * d.val = d.val; omega
  | ⟨3, _⟩ => show win0_10.index t (3 : Fin 4) * 640 + 1 * s.val = s.val; omega

/-- An index of four axes of which the first has one element. -/
theorem ix_one {b c d : ℕ} (j : (⟨4, ![1, b, c, d]⟩ : Shape).Idx) : ∃ (x : Fin b) (y : Fin c) (z : Fin d), j = ix4 (0 : Fin 1) x y z := by
  have h0 : (j 0).val < 1 := (j 0).isLt
  refine ⟨j 1, j 2, j 3, ?_⟩
  funext a; apply Fin.ext
  match a with
  | ⟨0, _⟩ => show (j 0).val = 0; omega
  | ⟨1, _⟩ => rfl
  | ⟨2, _⟩ => rfl
  | ⟨3, _⟩ => rfl
/-- An index of four axes of which the first two have one element. -/
theorem ix_two {c d : ℕ} (j : (⟨4, ![1, 1, c, d]⟩ : Shape).Idx) : ∃ (y : Fin c) (z : Fin d), j = ix4 (0 : Fin 1) (0 : Fin 1) y z := by
  obtain ⟨x, y, z, rfl⟩ := ix_one j
  exact ⟨y, z, by rw [Subsingleton.elim x 0]⟩

theorem cut4_of (t : Fin cfg0.N) (X : Vec Ideal S1x8x96x640 .fp8e4m3) (Y : Vec Ideal S3x64x96x640 .fp8e4m3)
    (H : ∀ (h : Fin 8) (d : Fin 96) (s : Fin 640), X (ix4 0 h d s) = Y (ix4 (bAt t) (hd (kvAt t) h) d s)) :
    (cfg0.win 4).cut (grid0.coords t) X = ((cfg0.win 4).blk t).view.read (Elt Ideal) Y := by
  funext j
  show X j = Y (((cfg0.win 4).blk t).view.emb j)
  obtain ⟨h, d, s, rfl⟩ := ix_one j
  rw [emb4, H]
theorem cut6_of (t : Fin cfg0.N) (X : Vec Ideal S1x5x8x96 .bf16) (Y : Vec Ideal S3x5x64x96 .bf16)
    (H : ∀ (g : Fin 5) (h : Fin 8) (d : Fin 96), X (ix4 0 g h d) = Y (ix4 (bAt t) g (hd (kvAt t) h) d)) :
    (cfg0.win 6).cut (grid0.coords t) X = ((cfg0.win 6).blk t).view.read (Elt Ideal) Y := by
  funext j
  show X j = Y (((cfg0.win 6).blk t).view.emb j)
  obtain ⟨g, h, d, rfl⟩ := ix_one j
  rw [emb6, H]
theorem cut7_of (t : Fin cfg0.N) (X : Vec Ideal S1x1x96x640 .fp8e4m3) (Y : Vec Ideal S3x8x96x640 .fp8e4m3)
    (H : ∀ (d : Fin 96) (s : Fin 640), X (ix4 0 0 d s) = Y (ix4 (bAt t) (kvAt t) d s)) :
    (cfg0.win 7).cut (grid0.coords t) X = ((cfg0.win 7).blk t).view.read (Elt Ideal) Y := by
  funext j
  show X j = Y (((cfg0.win 7).blk t).view.emb j)
  obtain ⟨d, s, rfl⟩ := ix_two j
  rw [emb7, H]
theorem cut10_of (t : Fin cfg0.N) (X : Vec Ideal S1x1x96x640 .fp8e4m3) (Y : Vec Ideal S3x8x96x640 .fp8e4m3)
    (H : ∀ (d : Fin 96) (s : Fin 640), X (ix4 0 0 d s) = Y (ix4 (bAt t) (kvAt t) d s)) :
    (cfg0.win 10).cut (grid0.coords t) X = ((cfg0.win 10).blk t).view.read (Elt Ideal) Y := by
  funext j
  show X j = Y (((cfg0.win 10).blk t).view.emb j)
  obtain ⟨d, s, rfl⟩ := ix_two j
  rw [emb10, H]

theorem flushed4_eq (c : Dev nD) (t : Fin cfg0.N) :
    (dats m 0 c).flushed 4 t = ((cfg0.win 4).blk t).view.read (Elt Ideal) (G4 (V m c main_arg0) (V m c main_arg1) (V m c main_arg2)) := by
  show (cfg0.win 4).cut (grid0.coords t) ((dats m 0 c).after 4 t) = _
  rw [after0_4]
  exact cut4_of t _ _ fun h d s => (qtAt_apply _ h d s).trans ((congrArg (fun X => QC X s d) (qHead_eq m c t h)).trans (G4_apply _ _ _ (bAt t) (kvAt t) h d s).symm)
theorem flushed6_eq (c : Dev nD) (t : Fin cfg0.N) :
    (dats m 0 c).flushed 6 t = ((cfg0.win 6).blk t).view.read (Elt Ideal) (G5 (V m c main_arg0) (V m c main_arg1) (V m c main_arg2)) := by
  show (cfg0.win 6).cut (grid0.coords t) ((dats m 0 c).after 6 t) = _
  rw [after0_6]
  exact cut6_of t _ _ fun g h d => (mqAt_apply _ g h d).trans ((congrArg (fun X => MQ X g d) (qHead_eq m c t h)).trans (G5_apply _ _ _ (bAt t) g (hd (kvAt t) h) d).symm)
theorem flushed7_eq (c : Dev nD) (t : Fin cfg0.N) :
    (dats m 0 c).flushed 7 t = ((cfg0.win 7).blk t).view.read (Elt Ideal) (G6 (V m c main_arg0) (V m c main_arg1) (V m c main_arg2)) := by
  show (cfg0.win 7).cut (grid0.coords t) ((dats m 0 c).after 7 t) = _
  rw [after0_7]
  exact cut7_of t _ _ fun d s => (ktAt_apply _ _ d s).trans ((congrArg (fun K => KC K s d) (kHead1_eq m c t)).trans (G6_apply _ _ _ (bAt t) (kvAt t) d s).symm)
theorem flushed10_eq (c : Dev nD) (t : Fin cfg0.N) :
    (dats m 0 c).flushed 10 t = ((cfg0.win 10).blk t).view.read (Elt Ideal) (G7 (V m c main_arg0) (V m c main_arg1) (V m c main_arg2)) := by
  show (cfg0.win 10).cut (grid0.coords t) ((dats m 0 c).after 10 t) = _
  rw [after0_10]
  exact cut10_of t _ _ fun d s => (vtAt_apply _ _ d s).trans ((congrArg (fun K => VC K s d) (kHead2_eq m c t)).trans (G7_apply _ _ _ (bAt t) (kvAt t) d s).symm)

/-- Every batch entry and key head has its grid point. -/
theorem point_at (b : Fin 3) (kv : Fin 8) : ∃ t : Fin cfg0.N, bAt t = b ∧ kvAt t = kv := by
  have hN : cfg0.N = 24 := N_0
  obtain ⟨t, ht⟩ : ∃ t : Fin cfg0.N, t.val = 8 * b.val + kv.val := ⟨⟨8 * b.val + kv.val, by omega⟩, rfl⟩
  obtain ⟨e0, e1⟩ := coords_at t
  exact ⟨t, Fin.ext (by omega), Fin.ext (by omega)⟩
/-- An index of four axes by its coordinates. -/
theorem ix_four {a b c d : ℕ} (j : (⟨4, ![a, b, c, d]⟩ : Shape).Idx) : ∃ (w : Fin a) (x : Fin b) (y : Fin c) (z : Fin d), j = ix4 w x y z := by
  refine ⟨j 0, j 1, j 2, j 3, ?_⟩
  funext e; apply Fin.ext
  match e with
  | ⟨0, _⟩ => rfl
  | ⟨1, _⟩ => rfl
  | ⟨2, _⟩ => rfl
  | ⟨3, _⟩ => rfl
theorem hd_surj (n : Fin 64) : ∃ kv h : Fin 8, n = hd kv h :=
  ⟨⟨n.val / 8, by omega⟩, ⟨n.val % 8, by omega⟩, Fin.ext (by show n.val = n.val / 8 * 8 + n.val % 8; omega)⟩

theorem covered4 (i : S3x64x96x640.Idx) : ∃ t : Fin cfg0.N, (cfg0.win 4).flush t = true ∧ i ∈ ((cfg0.win 4).blk t).view.set := by
  obtain ⟨b, n, d, s, rfl⟩ := ix_four i
  obtain ⟨kv, h, rfl⟩ := hd_surj n
  obtain ⟨t, rfl, rfl⟩ := point_at b kv
  refine ⟨t, flush0_4 t, ?_⟩
  rw [← emb4]
  exact View.emb_mem_set _ _
theorem covered6 (i : S3x5x64x96.Idx) : ∃ t : Fin cfg0.N, (cfg0.win 6).flush t = true ∧ i ∈ ((cfg0.win 6).blk t).view.set := by
  obtain ⟨b, g, n, d, rfl⟩ := ix_four i
  obtain ⟨kv, h, rfl⟩ := hd_surj n
  obtain ⟨t, rfl, rfl⟩ := point_at b kv
  refine ⟨t, flush0_6 t, ?_⟩
  rw [← emb6]
  exact View.emb_mem_set _ _
theorem covered7 (i : S3x8x96x640.Idx) : ∃ t : Fin cfg0.N, (cfg0.win 7).flush t = true ∧ i ∈ ((cfg0.win 7).blk t).view.set := by
  obtain ⟨b, kv, d, s, rfl⟩ := ix_four i
  obtain ⟨t, rfl, rfl⟩ := point_at b kv
  refine ⟨t, flush0_7 t, ?_⟩
  rw [← emb7]
  exact View.emb_mem_set _ _
theorem covered10 (i : S3x8x96x640.Idx) : ∃ t : Fin cfg0.N, (cfg0.win 10).flush t = true ∧ i ∈ ((cfg0.win 10).blk t).view.set := by
  obtain ⟨b, kv, d, s, rfl⟩ := ix_four i
  obtain ⟨t, rfl, rfl⟩ := point_at b kv
  refine ⟨t, flush0_10 t, ?_⟩
  rw [← emb10]
  exact View.emb_mem_set _ _

theorem final4 (c : Dev nD) : (dats m 0 c).arrAt 4 cfg0.N = G4 (m ((c : Thread nD τ).loc main_arg0)) (m ((c : Thread nD τ).loc main_arg1)) (m ((c : Thread nD τ).loc main_arg2)) :=
  ((dats m 0 c).arrAt_eq_of_cover 4 (G4 (V m c main_arg0) (V m c main_arg1) (V m c main_arg2)) (fun t _ => flushed4_eq m c t) covered4).trans
    (by rw [V_main_arg0, V_main_arg1, V_main_arg2])
theorem final6 (c : Dev nD) : (dats m 0 c).arrAt 6 cfg0.N = G5 (m ((c : Thread nD τ).loc main_arg0)) (m ((c : Thread nD τ).loc main_arg1)) (m ((c : Thread nD τ).loc main_arg2)) :=
  ((dats m 0 c).arrAt_eq_of_cover 6 (G5 (V m c main_arg0) (V m c main_arg1) (V m c main_arg2)) (fun t _ => flushed6_eq m c t) covered6).trans
    (by rw [V_main_arg0, V_main_arg1, V_main_arg2])
theorem final7 (c : Dev nD) : (dats m 0 c).arrAt 7 cfg0.N = G6 (m ((c : Thread nD τ).loc main_arg0)) (m ((c : Thread nD τ).loc main_arg1)) (m ((c : Thread nD τ).loc main_arg2)) :=
  ((dats m 0 c).arrAt_eq_of_cover 7 (G6 (V m c main_arg0) (V m c main_arg1) (V m c main_arg2)) (fun t _ => flushed7_eq m c t) covered7).trans
    (by rw [V_main_arg0, V_main_arg1, V_main_arg2])
theorem final10 (c : Dev nD) : (dats m 0 c).arrAt 10 cfg0.N = G7 (m ((c : Thread nD τ).loc main_arg0)) (m ((c : Thread nD τ).loc main_arg1)) (m ((c : Thread nD τ).loc main_arg2)) :=
  ((dats m 0 c).arrAt_eq_of_cover 10 (G7 (V m c main_arg0) (V m c main_arg1) (V m c main_arg2)) (fun t _ => flushed10_eq m c t) covered10).trans
    (by rw [V_main_arg0, V_main_arg1, V_main_arg2])

/-- The kernel's run: its results are the reference's, its arguments end unchanged. -/
theorem run (ρ : Dev nD → PrngReg) (hT : ∀ (c : Dev nD) b n, Tame (xN (m ((c : Thread nD τ).loc main_arg0)) b n)) :
    θ_run defs (onTc (τ := τ) (main (F := Ideal))) ⟨m, fun _ => 0, ρ⟩ fun r => ∀ c : Dev nD,
      r.2.mem ((c : Thread nD τ).loc main_v0_0) = G3 (m ((c : Thread nD τ).loc main_arg0)) (m ((c : Thread nD τ).loc main_arg1)) (m ((c : Thread nD τ).loc main_arg2))
      ∧ r.2.mem ((c : Thread nD τ).loc main_v0_1) = G4 (m ((c : Thread nD τ).loc main_arg0)) (m ((c : Thread nD τ).loc main_arg1)) (m ((c : Thread nD τ).loc main_arg2))
      ∧ r.2.mem ((c : Thread nD τ).loc main_v0_3) = G5 (m ((c : Thread nD τ).loc main_arg0)) (m ((c : Thread nD τ).loc main_arg1)) (m ((c : Thread nD τ).loc main_arg2))
      ∧ r.2.mem ((c : Thread nD τ).loc main_v0_4) = G6 (m ((c : Thread nD τ).loc main_arg0)) (m ((c : Thread nD τ).loc main_arg1)) (m ((c : Thread nD τ).loc main_arg2))
      ∧ r.2.mem ((c : Thread nD τ).loc main_v0_7) = G7 (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨(((dats m 0 c).toRForget_arrAt_iff (fgt := forgets0) (w := 3) rfl cfg0.N _).mp ((h c).1 3)).trans (final3 m c (hT c)),
      (((dats m 0 c).toRForget_arrAt_iff (fgt := forgets0) (w := 4) rfl cfg0.N _).mp ((h c).1 4)).trans (final4 m c),
      (((dats m 0 c).toRForget_arrAt_iff (fgt := forgets0) (w := 6) rfl cfg0.N _).mp ((h c).1 6)).trans (final6 m c),
      (((dats m 0 c).toRForget_arrAt_iff (fgt := forgets0) (w := 7) rfl cfg0.N _).mp ((h c).1 7)).trans (final7 m c),
      (((dats m 0 c).toRForget_arrAt_iff (fgt := forgets0) (w := 10) rfl cfg0.N _).mp ((h c).1 10)).trans (final10 m c),
      (Pipeline.RDat.FramePost.arr_in h c 0 rfl).trans ((A_eq m c 0).trans (V_main_arg0 m c)),
      (Pipeline.RDat.FramePost.arr_in h c 1 rfl).trans ((A_eq m c 1).trans (V_main_arg1 m c)),
      (Pipeline.RDat.FramePost.arr_in h c 2 rfl).trans ((A_eq m c 2).trans (V_main_arg2 m c))⟩) (run_main m ρ)

end Cert.KernelIdeal.Final
-- ==== Proof.Tame.lean ====
module

public import proofs.«01_k».proof.Proof.Ref
public import proofs.«01_k».proof.Pre_tame
public import proofs.«01_k».proof.Proof.Gen.Pre_tame

@[expose] public section

/-! The precondition read at an index: every head of the queries is `Spec.Tame`. -/

set_option maxRecDepth 16384
set_option maxHeartbeats 1000000

noncomputable section

namespace Cert.Pre_tame.Read

open Cert.Pre_tame Cert.Pre_tame.Facts Idealize.ShloMosaic Idealize.ShloMosaic.TcCoe Idealize.ShloMosaic.Pointwise Idealize.SL.Sem
open Cert.Spec
open Cert.ReferenceIdeal.Read (xN grp_row row_grp)

variable [Facts]
variable (x : FVec Ideal S3x640x6144 .bf16)

def xg : FVec Ideal S3x5x128x64x96 .f32 := extf .f32 (shapeCast S3x5x128x64x96 x shapeCasts_S3x640x6144_S3x5x128x64x96) bitsLt_bf16_f32
def mean (y : FVec Ideal S3x5x128x64x96 .f32) : FVec Ideal S3x5x1x64x96 .f32 :=
  Host.divf (broadcastInDim S3x5x1x64x96 ![0, 1, 3, 4] bcast_S3x5x64x96_S3x5x1x64x96_0_1_3_4
      (Host.reduceAdd y (constant (F := Ideal) S_ .f32 0x00000000#32) reducesTo_S3x5x128x64x96_S3x5x64x96_d2 h_S_))
    (broadcastInDim S3x5x1x64x96 ![] bcast_S_S3x5x1x64x96 (constant (F := Ideal) S_ .f32 0x43000000#32))
def dev (y : FVec Ideal S3x5x128x64x96 .f32) (mu : FVec Ideal S3x5x1x64x96 .f32) : FVec Ideal S3x5x128x64x96 .f32 :=
  subf y (broadcastInDim S3x5x128x64x96 ![0, 1, 2, 3, 4] bcast_S3x5x1x64x96_S3x5x128x64x96_0_1_2_3_4 mu)
def top (z : FVec Ideal S3x5x128x64x96 .f32) : FVec Ideal S3x5x64 .f32 :=
  Host.reduce FloatOps.maximumf (Host.absf z) (constant (F := Ideal) S_ .f32 0xFF800000#32) reducesTo_S3x5x128x64x96_S3x5x64_d2_4 h_S_
def test (y : FVec Ideal S3x5x128x64x96 .f32) (mu : FVec Ideal S3x5x1x64x96 .f32) (M : FVec Ideal S3x5x64 .f32) : IVec S3x5x128x64x96 1 :=
  fn_part1 (F := Ideal) (broadcastInDim S3x5x1x64x1 ![0, 1, 3] bcast_S3x5x64_S3x5x1x64x1_0_1_3 M)
    (cmpf .olt (Host.absf y) (broadcastInDim S3x5x128x64x96 ![] bcast_S_S3x5x128x64x96 (constant (F := Ideal) S_ .f32 0x7F800000#32)))
    (Host.absf mu)
    (cmpf .oeq (broadcastInDim S3x5x1x64x1 ![0, 1, 3] bcast_S3x5x64_S3x5x1x64x1_0_1_3 M) (broadcastInDim S3x5x1x64x1 ![] bcast_S_S3x5x1x64x1 (constant (F := Ideal) S_ .f32 0x00000000#32)))
    (broadcastInDim S3x5x1x64x1 ![] bcast_S_S3x5x1x64x1 (constant (F := Ideal) S_ .f32 0x6D000000#32))
theorem fn_eq (k v : FVec Ideal S3x640x768 .bf16) :
    fn (F := Ideal) x k v = test (xg x) (mean (xg x)) (top (dev (xg x) (mean (xg x)))) := rfl

theorem xg_apply (b : Fin 3) (g : Fin 5) (r : Fin 128) (n : Fin 64) (d : Fin 96) : xg x (ix5 b g r n d) = xN x b n (row g r) d := by
  pointwise [xg]
  exact congrArg (fun q => x (ix3 b q _)) (Fin.ext (by show g.val * 128 + r.val = 128 * g.val + r.val; omega))
theorem mean_apply (y : FVec Ideal S3x5x128x64x96 .f32) (b : Fin 3) (g : Fin 5) (n : Fin 64) (d : Fin 96) :
    mean y (ix5 b g 0 n d) = Ideal.div (∑ r, y (ix5 b g r n d)) c128 := by
  pointwise [mean]
  rfl
theorem dev_apply (y : FVec Ideal S3x5x128x64x96 .f32) (mu : FVec Ideal S3x5x1x64x96 .f32) (b : Fin 3) (g : Fin 5) (r : Fin 128) (n : Fin 64) (d : Fin 96) :
    dev y mu (ix5 b g r n d) = y (ix5 b g r n d) - mu (ix5 b g 0 n d) := by
  pointwise [dev]
theorem top_apply (z : FVec Ideal S3x5x128x64x96 .f32) (b : Fin 3) (g : Fin 5) (n : Fin 64) :
    top z (ix3 b g n) = ⨆ r : Fin 128, ⨆ d : Fin 96, ab (z (ix5 b g r n d)) := by
  have hr : (S3x5x128x64x96 : Shape).Reduces [2, 4] S3x5x64 := Cert.ReferenceIdeal.Gen.facts.reduces_S3x5x128x64x96_S3x5x64
  have e : top z (ix3 b g n) = multiReduction (F := Ideal) (φ := .f32) .maximumf [2, 4] S3x5x64 (absf z) 0xFF800000#32 hr (.inl rfl) rfl (ix3 b g n) :=
    (Host.reduce_eq_fold _ _ _ _ _ _).trans (multiReduction_maximumf_eq_fold _ _ _ _ _ _).symm
  exact e.trans (Cert.ReferenceIdeal.Read.max24 (absf z) _ _ _ b g n)

theorem inf_eq : Ideal.ofBits .f32 0x7F800000#32 = ⊤ := by
  simp [Ideal.ofBits, Ideal.ieee]
theorem two91_eq : Ideal.ofBits .f32 0x6D000000#32 = ((2 ^ 91 : ℝ) : EReal) := by
  simp [Ideal.ofBits, Ideal.ieee, -EReal.coe_mul, -EReal.coe_pow]; norm_num
theorem two100_eq : Ideal.ofBits .f32 0x71800000#32 = ((2 ^ 100 : ℝ) : EReal) := by
  simp [Ideal.ofBits, Ideal.ieee, -EReal.coe_mul, -EReal.coe_pow]; norm_num

theorem test_apply (y : FVec Ideal S3x5x128x64x96 .f32) (mu : FVec Ideal S3x5x1x64x96 .f32) (M : FVec Ideal S3x5x64 .f32)
    (b : Fin 3) (g : Fin 5) (r : Fin 128) (n : Fin 64) (d : Fin 96) (h : test y mu M (ix5 b g r n d) = 1#1) :
    ab (y (ix5 b g r n d)) < ⊤ ∧ ab (mu (ix5 b g 0 n d)) ≤ if M (ix3 b g n) = 0 then ((2 ^ 100 : ℝ) : EReal) else M (ix3 b g n) * ((2 ^ 91 : ℝ) : EReal) := by
  revert h
  pointwise [test, fn_part1, fn_where]
  rw [inf_eq, two91_eq, show id (constant (F := Ideal) S_ .f32 0x71800000#32) ix0 = ((2 ^ 100 : ℝ) : EReal) from two100_eq]
  have hb : ∀ p q : Bool, IntOp.andi (BitVec.ofBool p) (BitVec.ofBool q) = 1#1 → p = true ∧ q = true := by decide
  intro h
  obtain ⟨hp, hq⟩ := hb _ _ h
  exact ⟨of_decide_eq_true hp, of_decide_eq_true hq⟩

/-- The precondition makes every head of the queries tame. -/
theorem tame_of_fn (k v : FVec Ideal S3x640x768 .bf16) (h : fn (F := Ideal) x k v = fun _ => 1#1) (b : Fin 3) (n : Fin 64) : Tame (xN x b n) := by
  have H := fun g r d => test_apply (xg x) (mean (xg x)) (top (dev (xg x) (mean (xg x)))) b g r n d ((fn_eq x k v).symm.trans h ▸ rfl)
  have hM : ∀ g d, mean (xg x) (ix5 b g 0 n d) = MQ (xN x b n) g d := fun g d => by
    rw [mean_apply]
    exact congrArg (fun q => Ideal.div q c128) (Finset.sum_congr rfl fun r _ => xg_apply x b g r n d)
  have hQ : ∀ g, top (dev (xg x) (mean (xg x))) (ix3 b g n) = QA (xN x b n) g := fun g => by
    rw [top_apply]
    refine iSup_congr fun r => iSup_congr fun d => congrArg ab ?_
    rw [dev_apply, hM, xg_apply, QD, grp_row]
  constructor
  · intro s d
    have h1 := (H (grp s) ⟨s.val % 128, Nat.mod_lt _ (by norm_num)⟩ d).1
    rw [xg_apply, row_grp] at h1
    generalize xN x b n s d = y at h1
    induction y with
    | bot => simp [ab] at h1
    | top => simp [ab] at h1
    | coe r => exact ⟨r, rfl⟩
  · intro g d
    have h2 := (H g 0 d).2
    rwa [hM, hQ] at h2

end Cert.Pre_tame.Read
-- ==== Proof.lean ====
module

public import proofs.«01_k».proof.Defs
public import proofs.«01_k».proof.Proof.BitsFrame
public import proofs.«01_k».proof.Proof.Gen.Pre_tame
public import proofs.«01_k».proof.Proof.Gen.KernelIdeal.Skeleton
public import proofs.«01_k».proof.Proof.Gen.KernelIdeal.Frame
public import proofs.«01_k».proof.Proof.Gen.ReferenceIdeal.Skeleton
public import proofs.«01_k».proof.Proof.Gen.ReferenceIdeal.Frame
public import proofs.«01_k».proof.Proof.RefValue
public import proofs.«01_k».proof.Proof.Final
public import proofs.«01_k».proof.Proof.Tame

@[expose] public section

open Idealize.ShloMosaic Idealize.ShloMosaic.TcCoe Idealize.SL.Sem

/-- The two named constants hold the reals they are named for. -/
theorem Cert.Proof.preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "soft" .f32 0x3E16C740#32 (((3424635 / 33554432) * (Real.log 2)⁻¹ : ℝ) : EReal) rfl⟩

/-- Kernel and reference end with the same five results: the reference's functions of the arguments, on both sides. -/
theorem Cert.Proof.algebraic :
    Cert.algebraic_KernelIdeal_ReferenceIdeal_pre_tame (hKernelIdeal := Cert.KernelIdeal.Gen.facts) (hReferenceIdeal := Cert.ReferenceIdeal.Gen.facts)
      (hPre_tame := Cert.Pre_tame.Gen.facts) := by
  intro m g m' g' hpre hagree
  refine ⟨fun c => Cert.ReferenceIdeal.Value.G3 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.ReferenceIdeal.Value.G4 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.ReferenceIdeal.Value.G5 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.ReferenceIdeal.Value.G6 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.ReferenceIdeal.Value.G7 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · exact Cert.KernelIdeal.Final.run m g fun c b n => Cert.Pre_tame.Read.tame_of_fn _ _ _ (hpre c) b n
  · refine (θ_run _ _ _).mono (fun r h c => ?_) (Cert.ReferenceIdeal.Value.run (F := Ideal) m' g')
    obtain ⟨h0, h1, h2⟩ := hagree c
    obtain ⟨e3, e4, e5, e6, e7, ha⟩ := h c
    exact ⟨e3.trans (congr (congr (congrArg Cert.ReferenceIdeal.Value.G3 h0) h1) h2), e4.trans (congr (congr (congrArg Cert.ReferenceIdeal.Value.G4 h0) h1) h2),
      e5.trans (congr (congr (congrArg Cert.ReferenceIdeal.Value.G5 h0) h1) h2), e6.trans (congr (congr (congrArg Cert.ReferenceIdeal.Value.G6 h0) h1) h2),
      e7.trans (congr (congr (congrArg Cert.ReferenceIdeal.Value.G7 h0) h1) h2), ha⟩

theorem Cert.Proof.claim : Cert.Claim := ⟨Cert.Kernel.Gen.facts, Cert.KernelIdeal.Gen.facts, Cert.ReferenceIdeal.Gen.facts, Cert.Pre_tame.Gen.facts,
  fun m ρ _ => Cert.Kernel.Run.frame m ρ,
  fun m ρ _ => Cert.KernelIdeal.Run.frame m ρ,
  fun m ρ _ => Cert.KernelIdeal.Run.frame m ρ,
  fun m ρ _ => Cert.ReferenceIdeal.Gen.frame m ρ,
  fun m ρ _ => Cert.ReferenceIdeal.Gen.frame m ρ,
  Cert.Proof.preserves,
  Cert.Proof.algebraic⟩
